-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v49) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8x576x256 : Shape := ⟨3, ![8, 576, 256]⟩
abbrev S16384x256 : Shape := ⟨2, ![16384, 256]⟩
abbrev S8x384x384 : Shape := ⟨3, ![8, 384, 384]⟩
abbrev S8x3 : Shape := ⟨2, ![8, 3]⟩
abbrev S3x598 : Shape := ⟨2, ![3, 598]⟩
abbrev S598 : Shape := ⟨1, ![598]⟩
abbrev S_ : Shape := ⟨0, ![]⟩

class Facts : Prop where
  bcast_S_S8x576x256 : S_.BroadcastsInDim S8x576x256 (![] : Fin 0 → Fin S8x576x256.rank)
  reducesTo_S8x576x256_S_d0_1_2 : S8x576x256.ReducesTo [0, 1, 2] S_
  h_S_ : 0 < S_.numel
  bcast_S_S16384x256 : S_.BroadcastsInDim S16384x256 (![] : Fin 0 → Fin S16384x256.rank)
  reducesTo_S16384x256_S_d0_1 : S16384x256.ReducesTo [0, 1] S_

variable [Facts]

def fn {F : FTy → Type} [FloatOps F] (main_arg0 : FVec F S8x576x256 .f32) (main_arg1 : FVec F S16384x256 .f32) (main_arg2 : FVec F S8x384x384 .f32) (main_arg3 : FVec F S8x3 .f32) (main_arg4 : FVec F S3x598 .f32) (main_arg5 : FVec F S598 .f32) : IVec S_ 1 :=
  let main_v0 : FVec F S8x576x256 .f32 := Host.absf main_arg0
  let main_cst : FVec F S_ .f32 := constant S_ .f32 0x7F800000#32
  let main_v1 : FVec F S8x576x256 .f32 := broadcastInDim S8x576x256 ![] bcast_S_S8x576x256 main_cst
  let main_v2 : IVec S8x576x256 1 := cmpf .olt main_v0 main_v1
  let main_c : IVec S_ 1 := constantI S_ 1 1#1
  let main_v3 : IVec S_ 1 := (fun x v => Host.reduce IntOp.andi x v reducesTo_S8x576x256_S_d0_1_2 h_S_) main_v2 main_c
  let main_v4 : FVec F S16384x256 .f32 := Host.absf main_arg1
  let main_cst_0 : FVec F S_ .f32 := constant S_ .f32 0x7F800000#32
  let main_v5 : FVec F S16384x256 .f32 := broadcastInDim S16384x256 ![] bcast_S_S16384x256 main_cst_0
  let main_v6 : IVec S16384x256 1 := cmpf .olt main_v4 main_v5
  let main_c_1 : IVec S_ 1 := constantI S_ 1 1#1
  let main_v7 : IVec S_ 1 := (fun x v => Host.reduce IntOp.andi x v reducesTo_S16384x256_S_d0_1 h_S_) main_v6 main_c_1
  let main_v8 : IVec S_ 1 := andi main_v3 main_v7
  main_v8
-- ==== Kernel.lean ====
abbrev S8x576x256 : Shape := ⟨3, ![8, 576, 256]⟩
abbrev S16384x256 : Shape := ⟨2, ![16384, 256]⟩
abbrev S8x384x384 : Shape := ⟨3, ![8, 384, 384]⟩
abbrev S8x3 : Shape := ⟨2, ![8, 3]⟩
abbrev S3x598 : Shape := ⟨2, ![3, 598]⟩
abbrev S598 : Shape := ⟨1, ![598]⟩
abbrev S4608x256 : Shape := ⟨2, ![4608, 256]⟩
abbrev S4608x1 : Shape := ⟨2, ![4608, 1]⟩
abbrev S1152x256 : Shape := ⟨2, ![1152, 256]⟩
abbrev S1152x1 : Shape := ⟨2, ![1152, 1]⟩
abbrev S4x1152x1 : Shape := ⟨3, ![4, 1152, 1]⟩
abbrev S1152 : Shape := ⟨1, ![1152]⟩
abbrev S2048x256 : Shape := ⟨2, ![2048, 256]⟩
abbrev S1152x2048 : Shape := ⟨2, ![1152, 2048]⟩
abbrev S2048 : Shape := ⟨1, ![2048]⟩
abbrev S1x2048 : Shape := ⟨2, ![1, 2048]⟩
abbrev S1x1152x1 : Shape := ⟨3, ![1, 1152, 1]⟩
abbrev S1x4608x1 : Shape := ⟨3, ![1, 4608, 1]⟩
abbrev S1 : Shape := ⟨1, ![1]⟩
abbrev S1x1x1 : Shape := ⟨3, ![1, 1, 1]⟩
abbrev S8x147456 : Shape := ⟨2, ![8, 147456]⟩
abbrev S1x598 : Shape := ⟨2, ![1, 598]⟩
abbrev S8x598 : Shape := ⟨2, ![8, 598]⟩
abbrev S8 : Shape := ⟨1, ![8]⟩
abbrev S8x1 : Shape := ⟨2, ![8, 1]⟩
abbrev S1x8x598 : Shape := ⟨3, ![1, 8, 598]⟩
abbrev S8x576 : Shape := ⟨2, ![8, 576]⟩
abbrev S8x1x576 : Shape := ⟨3, ![8, 1, 576]⟩
abbrev S8x1x598 : Shape := ⟨3, ![8, 1, 598]⟩

abbrev nBuf : Space → Nat
  | .hbm => 14
  | .vmem => 14
  | .smem => 0
  | _ => 0

abbrev bufTy : (tb : Table) → Fin (tcTables nBuf tb) → BufTy
  | .hbm, ⟨0, _⟩ => ⟨S8x576x256, .f32⟩
  | .hbm, ⟨1, _⟩ => ⟨S16384x256, .f32⟩
  | .hbm, ⟨2, _⟩ => ⟨S8x384x384, .f32⟩
  | .hbm, ⟨3, _⟩ => ⟨S8x3, .f32⟩
  | .hbm, ⟨4, _⟩ => ⟨S3x598, .f32⟩
  | .hbm, ⟨5, _⟩ => ⟨S598, .f32⟩
  | .hbm, ⟨6, _⟩ => ⟨S4608x256, .f32⟩
  | .hbm, ⟨7, _⟩ => ⟨S4608x1, .f32⟩
  | .hbm, ⟨8, _⟩ => ⟨S8x147456, .f32⟩
  | .hbm, ⟨9, _⟩ => ⟨S1x598, .f32⟩
  | .hbm, ⟨10, _⟩ => ⟨S8x598, .f32⟩
  | .hbm, ⟨11, _⟩ => ⟨S8x576, .f32⟩
  | .hbm, ⟨12, _⟩ => ⟨S8x1x576, .f32⟩
  | .hbm, ⟨13, _⟩ => ⟨S8x1x598, .f32⟩
  | .local _ .vmem, ⟨0, _⟩ => ⟨S1152x256, .f32⟩
  | .local _ .vmem, ⟨1, _⟩ => ⟨S1152x256, .f32⟩
  | .local _ .vmem, ⟨2, _⟩ => ⟨S16384x256, .f32⟩
  | .local _ .vmem, ⟨3, _⟩ => ⟨S4608x1, .f32⟩
  | .local _ .vmem, ⟨4, _⟩ => ⟨S1152x1, .f32⟩
  | .local _ .vmem, ⟨5, _⟩ => ⟨S1152x256, .bf16⟩
  | .local _ .vmem, ⟨6, _⟩ => ⟨S1152x1, .f32⟩
  | .local _ .vmem, ⟨7, _⟩ => ⟨S1152x1, .i32⟩
  | .local _ .vmem, ⟨8, _⟩ => ⟨S4x1152x1, .f32⟩
  | .local _ .vmem, ⟨9, _⟩ => ⟨S8x147456, .f32⟩
  | .local _ .vmem, ⟨10, _⟩ => ⟨S8x3, .f32⟩
  | .local _ .vmem, ⟨11, _⟩ => ⟨S3x598, .f32⟩
  | .local _ .vmem, ⟨12, _⟩ => ⟨S1x598, .f32⟩
  | .local _ .vmem, ⟨13, _⟩ => ⟨S8x598, .f32⟩
  | _, _ => ⟨S8x576x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc1_stg0_0 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem1_0 : DmaSem sig := 5
abbrev cc1_sem2_0 : DmaSem sig := 6
abbrev cc1_sem3_0 : DmaSem sig := 7
abbrev cc1_sem4_0 : DmaSem sig := 8

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let arg1 : BitVec 32 := BitVec.ofNat 32 (i 1).val
  let c2048_i32 : BitVec 32 := 2048#32
  let v3 : BitVec 32 := Scalar.muli arg1 c2048_i32
  v3
def k0_off1 (i : grid0.Coords) : Fin 2 → Nat :=
  let arg1 : BitVec 32 := BitVec.ofNat 32 (i 1).val
  let c2048_i32 : BitVec 32 := 2048#32
  let v3 : BitVec 32 := Scalar.muli arg1 c2048_i32
  let v4 : BitVec 32 := v3
  let v5 : Index := Scalar.indexCast v4
  let c0 : Index := 0#32
  ![v5.toNat, 0]
def k0_cond5 (i : grid0.Coords) : BitVec 1 :=
  let arg1 : BitVec 32 := BitVec.ofNat 32 (i 1).val
  let c7_i32 : BitVec 32 := 7#32
  let v49 : BitVec 1 := Scalar.cmpi .eq arg1 c7_i32
  let v50 : BitVec 32 := Scalar.extui v49
  let c0_i32_19 : BitVec 32 := 0#32
  let v51 : BitVec 1 := Scalar.cmpi .ne v50 c0_i32_19
  v51

def k0_off2 (i : grid0.Coords) : Fin 3 → Nat :=
  let arg0 : BitVec 32 := BitVec.ofNat 32 (i 0).val
  let v59 : Index := Scalar.indexCast arg0
  let c0_24 : Index := 0#32
  let c0_25 : Index := 0#32
  ![v59.toNat, 0, 0]
def k0_cond6 (i : grid0.Coords) : BitVec 1 :=
  let arg0 : BitVec 32 := BitVec.ofNat 32 (i 0).val
  let c3_i32 : BitVec 32 := 3#32
  let v52 : BitVec 1 := Scalar.cmpi .eq arg0 c3_i32
  let arg1 : BitVec 32 := BitVec.ofNat 32 (i 1).val
  let c7_i32_20 : BitVec 32 := 7#32
  let v53 : BitVec 1 := Scalar.cmpi .eq arg1 c7_i32_20
  let v54 : BitVec 1 := Scalar.andi v52 v53
  let v55 : BitVec 32 := Scalar.extui v54
  let c0_i32_21 : BitVec 32 := 0#32
  let v56 : BitVec 1 := Scalar.cmpi .ne v55 c0_i32_21
  v56

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1152x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S16384x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S4608x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev grid1 : Pipeline.Grid := .none

abbrev stage1_0 : Fin 1 → Memref sig .tc .vmem S8x147456 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S8x3 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S3x598 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1x598 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S8x598 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
-- ==== ReferenceIdeal.lean ====
abbrev S8x576x256 : Shape := ⟨3, ![8, 576, 256]⟩
abbrev S16384x256 : Shape := ⟨2, ![16384, 256]⟩
abbrev S8x384x384 : Shape := ⟨3, ![8, 384, 384]⟩
abbrev S8x3 : Shape := ⟨2, ![8, 3]⟩
abbrev S3x598 : Shape := ⟨2, ![3, 598]⟩
abbrev S598 : Shape := ⟨1, ![598]⟩
abbrev S_ : Shape := ⟨0, ![]⟩
abbrev S8x576 : Shape := ⟨2, ![8, 576]⟩
abbrev S8x576x1 : Shape := ⟨3, ![8, 576, 1]⟩
abbrev S16384 : Shape := ⟨1, ![16384]⟩
abbrev S8x576x16384 : Shape := ⟨3, ![8, 576, 16384]⟩
abbrev S1x1x16384 : Shape := ⟨3, ![1, 1, 16384]⟩
abbrev S8 : Shape := ⟨1, ![8]⟩
abbrev S8x1 : Shape := ⟨2, ![8, 1]⟩
abbrev S8x598 : Shape := ⟨2, ![8, 598]⟩
abbrev S1x598 : Shape := ⟨2, ![1, 598]⟩
abbrev S8x1x598 : Shape := ⟨3, ![8, 1, 598]⟩
abbrev S8x1x576 : Shape := ⟨3, ![8, 1, 576]⟩

abbrev nBuf : Space → Nat
  | .hbm => 76
  | .vmem => 0
  | .smem => 0
  | _ => 0

abbrev bufTy : (tb : Table) → Fin (tcTables nBuf tb) → BufTy
  | .hbm, ⟨0, _⟩ => ⟨S8x576x256, .f32⟩
  | .hbm, ⟨1, _⟩ => ⟨S16384x256, .f32⟩
  | .hbm, ⟨2, _⟩ => ⟨S8x384x384, .f32⟩
  | .hbm, ⟨3, _⟩ => ⟨S8x3, .f32⟩
  | .hbm, ⟨4, _⟩ => ⟨S3x598, .f32⟩
  | .hbm, ⟨5, _⟩ => ⟨S598, .f32⟩
  | .hbm, ⟨6, _⟩ => ⟨S8x576x256, .f32⟩
  | .hbm, ⟨7, _⟩ => ⟨S_, .f32⟩
  | .hbm, ⟨8, _⟩ => ⟨S8x576, .f32⟩
  | .hbm, ⟨9, _⟩ => ⟨S8x576x1, .f32⟩
  | .hbm, ⟨10, _⟩ => ⟨S16384x256, .f32⟩
  | .hbm, ⟨11, _⟩ => ⟨S_, .f32⟩
  | .hbm, ⟨12, _⟩ => ⟨S16384, .f32⟩
  | .hbm, ⟨13, _⟩ => ⟨S8x576x16384, .f32⟩
  | .hbm, ⟨14, _⟩ => ⟨S1x1x16384, .f32⟩
  | .hbm, ⟨15, _⟩ => ⟨S8x576x16384, .f32⟩
  | .hbm, ⟨16, _⟩ => ⟨S8x576x16384, .f32⟩
  | .hbm, ⟨17, _⟩ => ⟨S8x576x16384, .f32⟩
  | .hbm, ⟨18, _⟩ => ⟨S_, .f32⟩
  | .hbm, ⟨19, _⟩ => ⟨S8x576x16384, .f32⟩
  | .hbm, ⟨20, _⟩ => ⟨S8x576x16384, .f32⟩
  | .hbm, ⟨21, _⟩ => ⟨S8x576x16384, .f32⟩
  | .hbm, ⟨22, _⟩ => ⟨S8x576x16384, .i32⟩
  | .hbm, ⟨23, _⟩ => ⟨S_, .f32⟩
  | .hbm, ⟨24, _⟩ => ⟨S_, .i32⟩
  | .hbm, ⟨25, _⟩ => ⟨S8x576, .f32⟩
  | .hbm, ⟨26, _⟩ => ⟨S8x576, .i32⟩
  | .hbm, ⟨27, _⟩ => ⟨S_, .f32⟩
  | .hbm, ⟨28, _⟩ => ⟨S8, .f32⟩
  | .hbm, ⟨29, _⟩ => ⟨S_, .f32⟩
  | .hbm, ⟨30, _⟩ => ⟨S8, .f32⟩
  | .hbm, ⟨31, _⟩ => ⟨S8, .i1⟩
  | .hbm, ⟨32, _⟩ => ⟨S_, .f32⟩
  | .hbm, ⟨33, _⟩ => ⟨S_, .f32⟩
  | .hbm, ⟨34, _⟩ => ⟨S8, .f32⟩
  | .hbm, ⟨35, _⟩ => ⟨S8, .f32⟩
  | .hbm, ⟨36, _⟩ => ⟨S8x1, .f32⟩
  | .hbm, ⟨37, _⟩ => ⟨S8x3, .f32⟩
  | .hbm, ⟨38, _⟩ => ⟨S8x3, .f32⟩
  | .hbm, ⟨39, _⟩ => ⟨S8x598, .f32⟩
  | .hbm, ⟨40, _⟩ => ⟨S1x598, .f32⟩
  | .hbm, ⟨41, _⟩ => ⟨S8x598, .f32⟩
  | .hbm, ⟨42, _⟩ => ⟨S8x598, .f32⟩
  | .hbm, ⟨43, _⟩ => ⟨S8x1x598, .f32⟩
  | .hbm, ⟨44, _⟩ => ⟨S8x1x576, .i32⟩
  | .hbm, ⟨45, _⟩ => ⟨S8x1x576, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S8x1x576, .f32⟩
  | .hbm, ⟨51, _⟩ => ⟨S8x1x576, .f32⟩
  | .hbm, ⟨52, _⟩ => ⟨S_, .f32⟩
  | .hbm, ⟨53, _⟩ => ⟨S8x1x576, .f32⟩
  | .hbm, ⟨54, _⟩ => ⟨S8x1x576, .f32⟩
  | .hbm, ⟨55, _⟩ => ⟨S_, .f32⟩
  | .hbm, ⟨56, _⟩ => ⟨S8x1x576, .f32⟩
  | .hbm, ⟨57, _⟩ => ⟨S8x1x576, .f32⟩
  | .hbm, ⟨58, _⟩ => ⟨S_, .f32⟩
  | .hbm, ⟨59, _⟩ => ⟨S8x1x576, .f32⟩
  | .hbm, ⟨60, _⟩ => ⟨S8x1x576, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S8x1x598, .f32⟩
  | .hbm, ⟨66, _⟩ => ⟨S8x1x598, .f32⟩
  | .hbm, ⟨67, _⟩ => ⟨S_, .f32⟩
  | .hbm, ⟨68, _⟩ => ⟨S8x1x598, .f32⟩
  | .hbm, ⟨69, _⟩ => ⟨S8x1x598, .f32⟩
  | .hbm, ⟨70, _⟩ => ⟨S_, .f32⟩
  | .hbm, ⟨71, _⟩ => ⟨S8x1x598, .f32⟩
  | .hbm, ⟨72, _⟩ => ⟨S8x1x598, .f32⟩
  | .hbm, ⟨73, _⟩ => ⟨S_, .f32⟩
  | .hbm, ⟨74, _⟩ => ⟨S8x1x598, .f32⟩
  | .hbm, ⟨75, _⟩ => ⟨S8x1x598, .f32⟩
  | _, _ => ⟨S8x576x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_call0_v0 : Ref sig .tc := ⟨.hbm, 22, rfl⟩
abbrev main_call0_cst : Ref sig .tc := ⟨.hbm, 23, rfl⟩
abbrev main_call0_c : Ref sig .tc := ⟨.hbm, 24, rfl⟩
abbrev main_call0_v1_0 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_cst_3 : Ref sig .tc := ⟨.hbm, 29, rfl⟩
abbrev main_v15 : Ref sig .tc := ⟨.hbm, 30, rfl⟩
abbrev main_v16 : Ref sig .tc := ⟨.hbm, 31, rfl⟩
abbrev main_cst_4 : Ref sig .tc := ⟨.hbm, 32, rfl⟩
abbrev main_call1_v0 : Ref sig .tc := ⟨.hbm, 33, rfl⟩
abbrev main_call1_v1 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_5 : Ref sig .tc := ⟨.hbm, 46, rfl⟩
abbrev main_v28 : Ref sig .tc := ⟨.hbm, 47, rfl⟩
abbrev main_cst_6 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_7 : Ref sig .tc := ⟨.hbm, 55, rfl⟩
abbrev main_v35 : Ref sig .tc := ⟨.hbm, 56, rfl⟩
abbrev main_v36 : Ref sig .tc := ⟨.hbm, 57, rfl⟩
abbrev main_cst_8 : Ref sig .tc := ⟨.hbm, 58, rfl⟩
abbrev main_v37 : Ref sig .tc := ⟨.hbm, 59, rfl⟩
abbrev main_v38 : Ref sig .tc := ⟨.hbm, 60, rfl⟩
abbrev main_cst_9 : Ref sig .tc := ⟨.hbm, 61, rfl⟩
abbrev main_v39 : Ref sig .tc := ⟨.hbm, 62, rfl⟩
abbrev main_cst_10 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_11 : Ref sig .tc := ⟨.hbm, 70, rfl⟩
abbrev main_v46 : Ref sig .tc := ⟨.hbm, 71, rfl⟩
abbrev main_v47 : Ref sig .tc := ⟨.hbm, 72, rfl⟩
abbrev main_cst_12 : Ref sig .tc := ⟨.hbm, 73, rfl⟩
abbrev main_v48 : Ref sig .tc := ⟨.hbm, 74, rfl⟩
abbrev main_v49 : Ref sig .tc := ⟨.hbm, 75, rfl⟩

abbrev nD : Nat := 1
abbrev τ : Topo := Topo.v7x

variable {F : FTy → Type} [FloatOps F]
-- ==== Proof.KernelIdeal.VqRun.lean ====
/- What the first kernel's body does at one point of its grid: the six branch conditions in closed form, and one run of
   the body per combination of them that occurs, each with the contents it leaves in every buffer. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.Value
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.KernelIdeal.Vq

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 8) — by arithmetic of the point. -/
theorem hcond0_0 : ∀ t : Fin cfg0.N, cond0_0 (grid0.coords t) ↔ t.val % 8 = 0 :=
  (fun t => by
    have ht : t.val < 32 := Nat.lt_of_lt_of_eq t.isLt N_0
    have e0 : (grid0.coords t 0).val = t.val / 8 % 4 := Pipeline.Grid.coords_val t 0 (by decide) rfl
    have e1 : (grid0.coords t 1).val = t.val / 1 % 8 := Pipeline.Grid.coords_val t 1 (by decide) rfl
    simp only [cond0_0, e0, e1]
    word_cmp
   : ∀ t : Fin grid0.N, cond0_0 (grid0.coords t) ↔ t.val % 8 = 0)

/-- The condition of the body's `scf.if` 1 (`k0_h2`), from the grid coordinates (the skeleton's scalar
    chain substituted). -/
abbrev cond0_1 (i : grid0.Coords) : Prop := (Scalar.cmpi .ne (Scalar.extui (Scalar.cmpi .eq (BitVec.ofNat 32 (i 1).val) 0#32)) 0#32) = 1#1
/-- It holds at the points ≡ 0 (mod 8) — by arithmetic of the point. -/
theorem hcond0_1 : ∀ t : Fin cfg0.N, cond0_1 (grid0.coords t) ↔ t.val % 8 = 0 :=
  (fun t => by
    have ht : t.val < 32 := Nat.lt_of_lt_of_eq t.isLt N_0
    have e0 : (grid0.coords t 0).val = t.val / 8 % 4 := Pipeline.Grid.coords_val t 0 (by decide) rfl
    have e1 : (grid0.coords t 1).val = t.val / 1 % 8 := Pipeline.Grid.coords_val t 1 (by decide) rfl
    simp only [cond0_1, e0, e1]
    word_cmp
   : ∀ t : Fin grid0.N, cond0_1 (grid0.coords t) ↔ t.val % 8 = 0)

/-- The condition of the body's `scf.if` 2 (`k0_h3`), from the grid coordinates (the skeleton's scalar
    chain substituted). -/
abbrev cond0_2 (i : grid0.Coords) : Prop := (Scalar.cmpi .ne (Scalar.extui (Scalar.cmpi .ne (BitVec.ofNat 32 (i 1).val) 0#32)) 0#32) = 1#1
/-- It holds at the points whose coordinates have 1 ≤ i1 — by arithmetic of the point. -/
theorem hcond0_2 : ∀ t : Fin cfg0.N, cond0_2 (grid0.coords t) ↔ 1 ≤ t.val % 8 :=
  (fun t => by
    have ht : t.val < 32 := Nat.lt_of_lt_of_eq t.isLt N_0
    have e0 : (grid0.coords t 0).val = t.val / 8 % 4 := Pipeline.Grid.coords_val t 0 (by decide) rfl
    have e1 : (grid0.coords t 1).val = t.val / 1 % 8 := Pipeline.Grid.coords_val t 1 (by decide) rfl
    simp only [cond0_2, e0, e1]
    word_cmp
   : ∀ t : Fin grid0.N, cond0_2 (grid0.coords t) ↔ 1 ≤ t.val % 8)

/-- The condition of the body's `scf.if` 3 (`k0_h4`), from the grid coordinates (the skeleton's scalar
    chain substituted). -/
abbrev cond0_3 (i : grid0.Coords) : Prop := (Scalar.cmpi .ne (Scalar.extui (Scalar.cmpi .eq (Scalar.select (Scalar.andi (Scalar.xori (Scalar.cmpi .slt (Scalar.remsi (BitVec.ofNat 32 (i 1).val) (Scalar.select (Scalar.cmpi .eq 2#32 0#32) 1#32 2#32)) 0#32) (Scalar.cmpi .slt (Scalar.select (Scalar.cmpi .eq 2#32 0#32) 1#32 2#32) 0#32)) (Scalar.cmpi .ne (Scalar.remsi (BitVec.ofNat 32 (i 1).val) (Scalar.select (Scalar.cmpi .eq 2#32 0#32) 1#32 2#32)) 0#32)) (Scalar.addi (Scalar.remsi (BitVec.ofNat 32 (i 1).val) (Scalar.select (Scalar.cmpi .eq 2#32 0#32) 1#32 2#32)) (Scalar.select (Scalar.cmpi .eq 2#32 0#32) 1#32 2#32)) (Scalar.remsi (BitVec.ofNat 32 (i 1).val) (Scalar.select (Scalar.cmpi .eq 2#32 0#32) 1#32 2#32))) 1#32)) 0#32) = 1#1
/-- It holds at the points ≡ 1 (mod 2) — decided over the grid. -/
theorem hcond0_3 : ∀ t : Fin cfg0.N, cond0_3 (grid0.coords t) ↔ t.val % 2 = 1 :=
  (by decide +kernel : ∀ t : Fin grid0.N, cond0_3 (grid0.coords t) ↔ t.val % 2 = 1)

/-- The condition of the body's `scf.if` 4 (`k0_h5`), from the grid coordinates (the skeleton's scalar
    chain substituted). -/
abbrev cond0_4 (i : grid0.Coords) : Prop := k0_cond5 i = 1#1
/-- It holds at the points ≡ 7 (mod 8) — by arithmetic of the point. -/
theorem hcond0_4 : ∀ t : Fin cfg0.N, cond0_4 (grid0.coords t) ↔ t.val % 8 = 7 :=
  (fun t => by
    have ht : t.val < 32 := Nat.lt_of_lt_of_eq t.isLt N_0
    have e0 : (grid0.coords t 0).val = t.val / 8 % 4 := Pipeline.Grid.coords_val t 0 (by decide) rfl
    have e1 : (grid0.coords t 1).val = t.val / 1 % 8 := Pipeline.Grid.coords_val t 1 (by decide) rfl
    simp only [cond0_4, k0_cond5, e0, e1]
    word_cmp
   : ∀ t : Fin grid0.N, cond0_4 (grid0.coords t) ↔ t.val % 8 = 7)

/-- The condition of the body's `scf.if` 5 (`k0_h6`), from the grid coordinates (the skeleton's scalar
    chain substituted). -/
abbrev cond0_5 (i : grid0.Coords) : Prop := k0_cond6 i = 1#1
/-- It holds at the last point only — by arithmetic of the point. -/
theorem hcond0_5 : ∀ t : Fin cfg0.N, cond0_5 (grid0.coords t) ↔ t.val % 32 = 31 :=
  (fun t => by
    have ht : t.val < 32 := Nat.lt_of_lt_of_eq t.isLt N_0
    have e0 : (grid0.coords t 0).val = t.val / 8 % 4 := Pipeline.Grid.coords_val t 0 (by decide) rfl
    have e1 : (grid0.coords t 1).val = t.val / 1 % 8 := Pipeline.Grid.coords_val t 1 (by decide) rfl
    simp only [cond0_5, k0_cond6, e0, e1]
    word_cmp
   : ∀ t : Fin grid0.N, cond0_5 (grid0.coords t) ↔ t.val % 32 = 31)

/-- Each window's current staging memref at point `t`, spelled as the pipeline passes it (`bodyAt0`), and its wholeness. -/
abbrev ms0_0 (t : Fin cfg0.N) : Memref sig .tc .vmem S1152x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16384x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4608x1 .f32 := win0_2.stage (cfg0.slots t 2)
abbrev hs0_2 (t : Fin cfg0.N) : (ms0_2 t).IsWhole := hstage0_2 ((cfg0.slots t 2).cast nbuf0_2)
/-- The scratch operands: whole scoped buffers of the kernel's own, passed beside the windows. -/
abbrev scM0_0 : Memref sig .tc .vmem S1152x1 .f32 := Memref.whole cc0_scratch0
abbrev scM0_1 : Memref sig .tc .vmem S1152x256 .bf16 := Memref.whole cc0_scratch1
abbrev scM0_2 : Memref sig .tc .vmem S1152x1 .f32 := Memref.whole cc0_scratch2
abbrev scM0_3 : Memref sig .tc .vmem S1152x1 .i32 := Memref.whole cc0_scratch3
abbrev scM0_4 : Memref sig .tc .vmem S4x1152x1 .f32 := Memref.whole cc0_scratch4

/-! ## The contents the body leaves -/

theorem hz2 : (![0, 0] : Fin 2 → Nat) = fun _ => 0 := funext fun a => by fin_cases a <;> rfl
theorem hz3 : (![0, 0, 0] : Fin 3 → Nat) = fun _ => 0 := funext fun a => by fin_cases a <;> rfl

/-- The rows of the codebook that the tile at grid coordinates `i` compares against. -/
abbrev tile (i : grid0.Coords) (x1 : Vec F S16384x256 .f32) : Vec F S2048x256 .f32 :=
  View.ld x1 (Rect.unit (s := S16384x256) (k0_off1 i) S2048x256.size (k0_off1_inb i))

/-- The slab of the index array that row tile `i 0` fills. -/
abbrev slab (i : grid0.Coords) (h : cond0_4 i) : Rect S4x1152x1 :=
  Rect.unit (s := S4x1152x1) (k0_off2 i) S1x1152x1.size (k0_off2_inb i h)

/-- A store through a rectangle over known contents leaves the contents with the payload laid over. -/
theorem read_one {S : Shape} {e : EltTy} {m : Memref sig .tc .vmem S e} (hm : m.IsWhole) (X : Vec F S e)
    (r : Rect S) (w : r.shape.Idx → Elt F e) :
    m.view.read (Elt F) (m.view.writes (Elt F) (hm.unread X) [⟨r, w⟩]) = r.overlay X w := by
  funext y
  by_cases hy : y ∈ r.set
  · rw [← Rect.map_emb_univ] at hy
    obtain ⟨x, -, rfl⟩ := Finset.mem_map.1 hy
    rw [View.read_writes_cons_emb, Rect.overlay_emb]
  · rw [View.read_writes_cons_miss _ _ _ _ _ hy, Rect.overlay_of_not_mem _ _ _ hy]
    exact congrFun (hm.read_unread X) y

theorem ld_col {e : EltTy} (X : Vec F S1152x1 e) (inb : ∀ a, (![0, 0] : Fin 2 → Nat) a + (![1152, 1] : Fin 2 → Nat) a ≤ S1152x1.size a) :
    View.ld X (Rect.unit (s := S1152x1) ![0, 0] ![1152, 1] inb) = X := View.ld_unit_zero hz2 inb X

theorem ld_rows {e : EltTy} (X : Vec F S1152x256 e) (inb : ∀ a, (![0, 0] : Fin 2 → Nat) a + (![1152, 256] : Fin 2 → Nat) a ≤ S1152x256.size a) :
    View.ld X (Rect.unit (s := S1152x256) ![0, 0] ![1152, 256] inb) = X := View.ld_unit_zero hz2 inb X

theorem ld_all {e : EltTy} (X : Vec F S4x1152x1 e) (inb : ∀ a, (![0, 0, 0] : Fin 3 → Nat) a + (![4, 1152, 1] : Fin 3 → Nat) a ≤ S4x1152x1.size a) :
    View.ld X (Rect.unit (s := S4x1152x1) ![0, 0, 0] ![4, 1152, 1] inb) = X := View.ld_unit_zero hz3 inb X

theorem cov_col {e : EltTy} (v : View sig .tc .vmem S1152x1 e) (inb inb' : ∀ a, (![0, 0] : Fin 2 → Nat) a + (![1152, 1] : Fin 2 → Nat) a ≤ S1152x1.size a)
    (w : Vec F S1152x1 e) (L : List (View.Piece (Elt F) S1152x1 e)) :
    v.readCov (⟨Rect.unit (s := S1152x1) ![0, 0] ![1152, 1] inb', w⟩ :: L) (Rect.unit (s := S1152x1) ![0, 0] ![1152, 1] inb).toLoadRect = w :=
  View.readCov_full v inb inb' w L

theorem cov_rows {e : EltTy} (v : View sig .tc .vmem S1152x256 e) (inb inb' : ∀ a, (![0, 0] : Fin 2 → Nat) a + (![1152, 256] : Fin 2 → Nat) a ≤ S1152x256.size a)
    (w : Vec F S1152x256 e) (L : List (View.Piece (Elt F) S1152x256 e)) :
    v.readCov (⟨Rect.unit (s := S1152x256) ![0, 0] ![1152, 256] inb', w⟩ :: L) (Rect.unit (s := S1152x256) ![0, 0] ![1152, 256] inb).toLoadRect = w :=
  View.readCov_full v inb inb' w L

set_option maxHeartbeats 1600000 in
/-- The body at the first codebook tile of a row tile: the norms and the negated rows are stored, and the running minimum starts. -/
theorem runA (c : Dev nD) (i : grid0.Coords) (arg2 : Memref sig .tc .vmem S1152x256 .f32) (harg2 : arg2.IsWhole) (arg3 : Memref sig .tc .vmem S16384x256 .f32) (harg3 : arg3.IsWhole) (arg4 : Memref sig .tc .vmem S4608x1 .f32) (harg4 : arg4.IsWhole) (arg5 : Memref sig .tc .vmem S1152x1 .f32) (harg5 : arg5.IsWhole) (arg6 : Memref sig .tc .vmem S1152x256 .bf16) (harg6 : arg6.IsWhole) (arg7 : Memref sig .tc .vmem S1152x1 .f32) (harg7 : arg7.IsWhole) (arg8 : Memref sig .tc .vmem S1152x1 .i32) (harg8 : arg8.IsWhole) (arg9 : Memref sig .tc .vmem S4x1152x1 .f32) (harg9 : arg9.IsWhole)
    (hc0 : cond0_0 i) (hc1 : cond0_1 i) (hc2 : ¬cond0_2 i) (hc3 : ¬cond0_3 i) (hc4 : ¬cond0_4 i) (hc5 : ¬cond0_5 i)
    (x0 : Vec F S1152x256 .f32) (x1 : Vec F S16384x256 .f32) (x4 : Vec F S4608x1 .f32) (xs4 : Vec F S4x1152x1 .f32) (E : Set ℕ) (K : PUnit → sProp 𝕄) :
    iprop(owns (c : Thread nD τ) arg2 fullShare x0 ∗ owns (c : Thread nD τ) arg3 fullShare x1 ∗ owns (c : Thread nD τ) arg4 fullShare x4 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs4
        ∗ (iprop(owns (c : Thread nD τ) arg2 fullShare x0 ∗ owns (c : Thread nD τ) arg3 fullShare x1 ∗ owns (c : Thread nD τ) arg4 fullShare x4 ∗ owns (c : Thread nD τ) arg5 fullShare (k0_pay5 x0) ∗ owns (c : Thread nD τ) arg6 fullShare (k0_pay6 x0) ∗ owns (c : Thread nD τ) arg7 fullShare (k0_pay10 (tile i x1) (k0_pay6 x0) (k0_pay5 x0)) ∗ owns (c : Thread nD τ) arg8 fullShare (k0_pay11 i (tile i x1) (k0_pay6 x0) (k0_pay5 x0)) ∗ owns (c : Thread nD τ) arg9 fullShare xs4) -∗ K ⟨⟩))
      ⊢ wp frame (wpE (defs₀ (F := F)) Variants.none c none) E (cc0__vq_kernel i arg2 harg2 arg3 harg3 arg4 harg4 arg5 harg5 arg6 harg6 arg7 harg7 arg8 harg8 arg9 harg9) K := by
  simp only [cc0__vq_kernel_eq_skeleton]; unfold cc0__vq_kernel_skel
  simp only [k0_part1_eq_skeleton]
  unfold owns
  iintro ⟨⟨%f0, %hf0, H0⟩, ⟨%f1, %hf1, H1⟩, ⟨%f2, %hf2, H2⟩, ⟨%ds0, %fs0, -, HS0⟩, ⟨%ds1, %fs1, -, HS1⟩, ⟨%ds2, %fs2, -, HS2⟩, ⟨%ds3, %fs3, -, HS3⟩, ⟨%fs4, %hfs4, HS4⟩, Hk⟩
  obtain rfl := harg2.eq_unread hf0; obtain rfl := harg3.eq_unread hf1; obtain rfl := harg4.eq_unread hf2; obtain rfl := harg9.eq_unread hfs4
  sl_exec (disch := first | sl_exact hc0 | sl_exact hc1 | sl_exact hc2 | sl_exact hc3 | sl_exact hc4 | sl_exact hc5)
  sl_step
  iapply Hk
  isplitl [H0]
  · iexists _; isplitr; swap; · iexact H0
    ipureintro; exact harg2.read_unread _
  isplitl [H1]
  · iexists _; isplitr; swap; · iexact H1
    ipureintro; exact harg3.read_unread _
  isplitl [H2]
  · iexists _; isplitr; swap; · iexact H2
    ipureintro; exact harg4.read_unread _
  isplitl [HS0]
  · iexists _; isplitr; swap; · iexact HS0
    ipureintro
    sl_unfold_words
    simp only [View.readAt_eq_ld, Memref.IsWhole.read_unread, ld_col, ld_rows, ld_all, cov_col, cov_rows]
    exact View.read_writes_full _ _ _ _ _
  isplitl [HS1]
  · iexists _; isplitr; swap; · iexact HS1
    ipureintro
    sl_unfold_words
    simp only [View.readAt_eq_ld, Memref.IsWhole.read_unread, ld_col, ld_rows, ld_all, cov_col, cov_rows]
    exact View.read_writes_full _ _ _ _ _
  isplitl [HS2]
  · iexists _; isplitr; swap; · iexact HS2
    ipureintro
    sl_unfold_words
    simp only [View.readAt_eq_ld, Memref.IsWhole.read_unread, ld_col, ld_rows, ld_all, cov_col, cov_rows]
    exact View.read_writes_full _ _ _ _ _
  isplitl [HS3]
  · iexists _; isplitr; swap; · iexact HS3
    ipureintro
    sl_unfold_words
    simp only [View.readAt_eq_ld, Memref.IsWhole.read_unread, ld_col, ld_rows, ld_all, cov_col, cov_rows]
    exact View.read_writes_full _ _ _ _ _
  iexists _; isplitr; swap; · iexact HS4
  ipureintro; exact harg9.read_unread _

set_option maxHeartbeats 1600000 in
/-- The body at an odd codebook tile short of the last: the running minimum is updated and then rounded. -/
theorem runB (c : Dev nD) (i : grid0.Coords) (arg2 : Memref sig .tc .vmem S1152x256 .f32) (harg2 : arg2.IsWhole) (arg3 : Memref sig .tc .vmem S16384x256 .f32) (harg3 : arg3.IsWhole) (arg4 : Memref sig .tc .vmem S4608x1 .f32) (harg4 : arg4.IsWhole) (arg5 : Memref sig .tc .vmem S1152x1 .f32) (harg5 : arg5.IsWhole) (arg6 : Memref sig .tc .vmem S1152x256 .bf16) (harg6 : arg6.IsWhole) (arg7 : Memref sig .tc .vmem S1152x1 .f32) (harg7 : arg7.IsWhole) (arg8 : Memref sig .tc .vmem S1152x1 .i32) (harg8 : arg8.IsWhole) (arg9 : Memref sig .tc .vmem S4x1152x1 .f32) (harg9 : arg9.IsWhole)
    (hc0 : ¬cond0_0 i) (hc1 : ¬cond0_1 i) (hc2 : cond0_2 i) (hc3 : cond0_3 i) (hc4 : ¬cond0_4 i) (hc5 : ¬cond0_5 i)
    (x0 : Vec F S1152x256 .f32) (x1 : Vec F S16384x256 .f32) (x4 : Vec F S4608x1 .f32) (xs0 : Vec F S1152x1 .f32) (xs1 : Vec F S1152x256 .bf16) (xs2 : Vec F S1152x1 .f32) (xs3 : Vec F S1152x1 .i32) (xs4 : Vec F S4x1152x1 .f32) (E : Set ℕ) (K : PUnit → sProp 𝕄) :
    iprop(owns (c : Thread nD τ) arg2 fullShare x0 ∗ owns (c : Thread nD τ) arg3 fullShare x1 ∗ owns (c : Thread nD τ) arg4 fullShare x4 ∗ owns (c : Thread nD τ) arg5 fullShare xs0 ∗ owns (c : Thread nD τ) arg6 fullShare xs1 ∗ owns (c : Thread nD τ) arg7 fullShare xs2 ∗ owns (c : Thread nD τ) arg8 fullShare xs3 ∗ owns (c : Thread nD τ) arg9 fullShare xs4
        ∗ (iprop(owns (c : Thread nD τ) arg2 fullShare x0 ∗ owns (c : Thread nD τ) arg3 fullShare x1 ∗ owns (c : Thread nD τ) arg4 fullShare x4 ∗ owns (c : Thread nD τ) arg5 fullShare xs0 ∗ owns (c : Thread nD τ) arg6 fullShare xs1 ∗ owns (c : Thread nD τ) arg7 fullShare (k0_pay1 (k0_pay13 (tile i x1) xs1 xs0 xs2 xs2)) ∗ owns (c : Thread nD τ) arg8 fullShare (k0_pay14 i (tile i x1) xs1 xs0 xs2 xs3) ∗ owns (c : Thread nD τ) arg9 fullShare xs4) -∗ K ⟨⟩))
      ⊢ wp frame (wpE (defs₀ (F := F)) Variants.none c none) E (cc0__vq_kernel i arg2 harg2 arg3 harg3 arg4 harg4 arg5 harg5 arg6 harg6 arg7 harg7 arg8 harg8 arg9 harg9) K := by
  simp only [cc0__vq_kernel_eq_skeleton]; unfold cc0__vq_kernel_skel
  simp only [k0_part1_eq_skeleton]
  unfold owns
  iintro ⟨⟨%f0, %hf0, H0⟩, ⟨%f1, %hf1, H1⟩, ⟨%f2, %hf2, H2⟩, ⟨%fs0, %hfs0, HS0⟩, ⟨%fs1, %hfs1, HS1⟩, ⟨%fs2, %hfs2, HS2⟩, ⟨%fs3, %hfs3, HS3⟩, ⟨%fs4, %hfs4, HS4⟩, Hk⟩
  obtain rfl := harg2.eq_unread hf0; obtain rfl := harg3.eq_unread hf1; obtain rfl := harg4.eq_unread hf2; obtain rfl := harg5.eq_unread hfs0; obtain rfl := harg6.eq_unread hfs1; obtain rfl := harg7.eq_unread hfs2; obtain rfl := harg8.eq_unread hfs3; obtain rfl := harg9.eq_unread hfs4
  sl_exec (disch := first | sl_exact hc0 | sl_exact hc1 | sl_exact hc2 | sl_exact hc3 | sl_exact hc4 | sl_exact hc5)
  sl_step
  iapply Hk
  isplitl [H0]
  · iexists _; isplitr; swap; · iexact H0
    ipureintro; exact harg2.read_unread _
  isplitl [H1]
  · iexists _; isplitr; swap; · iexact H1
    ipureintro; exact harg3.read_unread _
  isplitl [H2]
  · iexists _; isplitr; swap; · iexact H2
    ipureintro; exact harg4.read_unread _
  isplitl [HS0]
  · iexists _; isplitr; swap; · iexact HS0
    ipureintro; exact harg5.read_unread _
  isplitl [HS1]
  · iexists _; isplitr; swap; · iexact HS1
    ipureintro; exact harg6.read_unread _
  isplitl [HS2]
  · iexists _; isplitr; swap; · iexact HS2
    ipureintro
    sl_unfold_words
    simp only [View.readAt_eq_ld, Memref.IsWhole.read_unread, ld_col, ld_rows, ld_all, cov_col, cov_rows]
    exact View.read_writes_full _ _ _ _ _
  isplitl [HS3]
  · iexists _; isplitr; swap; · iexact HS3
    ipureintro
    sl_unfold_words
    simp only [View.readAt_eq_ld, Memref.IsWhole.read_unread, ld_col, ld_rows, ld_all, cov_col, cov_rows]
    exact View.read_writes_full _ _ _ _ _
  iexists _; isplitr; swap; · iexact HS4
  ipureintro; exact harg9.read_unread _

set_option maxHeartbeats 1600000 in
/-- The body at an even codebook tile after the first: the running minimum is updated. -/
theorem runC (c : Dev nD) (i : grid0.Coords) (arg2 : Memref sig .tc .vmem S1152x256 .f32) (harg2 : arg2.IsWhole) (arg3 : Memref sig .tc .vmem S16384x256 .f32) (harg3 : arg3.IsWhole) (arg4 : Memref sig .tc .vmem S4608x1 .f32) (harg4 : arg4.IsWhole) (arg5 : Memref sig .tc .vmem S1152x1 .f32) (harg5 : arg5.IsWhole) (arg6 : Memref sig .tc .vmem S1152x256 .bf16) (harg6 : arg6.IsWhole) (arg7 : Memref sig .tc .vmem S1152x1 .f32) (harg7 : arg7.IsWhole) (arg8 : Memref sig .tc .vmem S1152x1 .i32) (harg8 : arg8.IsWhole) (arg9 : Memref sig .tc .vmem S4x1152x1 .f32) (harg9 : arg9.IsWhole)
    (hc0 : ¬cond0_0 i) (hc1 : ¬cond0_1 i) (hc2 : cond0_2 i) (hc3 : ¬cond0_3 i) (hc4 : ¬cond0_4 i) (hc5 : ¬cond0_5 i)
    (x0 : Vec F S1152x256 .f32) (x1 : Vec F S16384x256 .f32) (x4 : Vec F S4608x1 .f32) (xs0 : Vec F S1152x1 .f32) (xs1 : Vec F S1152x256 .bf16) (xs2 : Vec F S1152x1 .f32) (xs3 : Vec F S1152x1 .i32) (xs4 : Vec F S4x1152x1 .f32) (E : Set ℕ) (K : PUnit → sProp 𝕄) :
    iprop(owns (c : Thread nD τ) arg2 fullShare x0 ∗ owns (c : Thread nD τ) arg3 fullShare x1 ∗ owns (c : Thread nD τ) arg4 fullShare x4 ∗ owns (c : Thread nD τ) arg5 fullShare xs0 ∗ owns (c : Thread nD τ) arg6 fullShare xs1 ∗ owns (c : Thread nD τ) arg7 fullShare xs2 ∗ owns (c : Thread nD τ) arg8 fullShare xs3 ∗ owns (c : Thread nD τ) arg9 fullShare xs4
        ∗ (iprop(owns (c : Thread nD τ) arg2 fullShare x0 ∗ owns (c : Thread nD τ) arg3 fullShare x1 ∗ owns (c : Thread nD τ) arg4 fullShare x4 ∗ owns (c : Thread nD τ) arg5 fullShare xs0 ∗ owns (c : Thread nD τ) arg6 fullShare xs1 ∗ owns (c : Thread nD τ) arg7 fullShare (k0_pay13 (tile i x1) xs1 xs0 xs2 xs2) ∗ owns (c : Thread nD τ) arg8 fullShare (k0_pay14 i (tile i x1) xs1 xs0 xs2 xs3) ∗ owns (c : Thread nD τ) arg9 fullShare xs4) -∗ K ⟨⟩))
      ⊢ wp frame (wpE (defs₀ (F := F)) Variants.none c none) E (cc0__vq_kernel i arg2 harg2 arg3 harg3 arg4 harg4 arg5 harg5 arg6 harg6 arg7 harg7 arg8 harg8 arg9 harg9) K := by
  simp only [cc0__vq_kernel_eq_skeleton]; unfold cc0__vq_kernel_skel
  simp only [k0_part1_eq_skeleton]
  unfold owns
  iintro ⟨⟨%f0, %hf0, H0⟩, ⟨%f1, %hf1, H1⟩, ⟨%f2, %hf2, H2⟩, ⟨%fs0, %hfs0, HS0⟩, ⟨%fs1, %hfs1, HS1⟩, ⟨%fs2, %hfs2, HS2⟩, ⟨%fs3, %hfs3, HS3⟩, ⟨%fs4, %hfs4, HS4⟩, Hk⟩
  obtain rfl := harg2.eq_unread hf0; obtain rfl := harg3.eq_unread hf1; obtain rfl := harg4.eq_unread hf2; obtain rfl := harg5.eq_unread hfs0; obtain rfl := harg6.eq_unread hfs1; obtain rfl := harg7.eq_unread hfs2; obtain rfl := harg8.eq_unread hfs3; obtain rfl := harg9.eq_unread hfs4
  sl_exec (disch := first | sl_exact hc0 | sl_exact hc1 | sl_exact hc2 | sl_exact hc3 | sl_exact hc4 | sl_exact hc5)
  sl_step
  iapply Hk
  isplitl [H0]
  · iexists _; isplitr; swap; · iexact H0
    ipureintro; exact harg2.read_unread _
  isplitl [H1]
  · iexists _; isplitr; swap; · iexact H1
    ipureintro; exact harg3.read_unread _
  isplitl [H2]
  · iexists _; isplitr; swap; · iexact H2
    ipureintro; exact harg4.read_unread _
  isplitl [HS0]
  · iexists _; isplitr; swap; · iexact HS0
    ipureintro; exact harg5.read_unread _
  isplitl [HS1]
  · iexists _; isplitr; swap; · iexact HS1
    ipureintro; exact harg6.read_unread _
  isplitl [HS2]
  · iexists _; isplitr; swap; · iexact HS2
    ipureintro
    sl_unfold_words
    simp only [View.readAt_eq_ld, Memref.IsWhole.read_unread, ld_col, ld_rows, ld_all, cov_col, cov_rows]
    exact View.read_writes_full _ _ _ _ _
  isplitl [HS3]
  · iexists _; isplitr; swap; · iexact HS3
    ipureintro
    sl_unfold_words
    simp only [View.readAt_eq_ld, Memref.IsWhole.read_unread, ld_col, ld_rows, ld_all, cov_col, cov_rows]
    exact View.read_writes_full _ _ _ _ _
  iexists _; isplitr; swap; · iexact HS4
  ipureintro; exact harg9.read_unread _

set_option maxHeartbeats 1600000 in
/-- The body at the last codebook tile of a row tile: the running minimum is updated and rounded, and the indices go to their slab. -/
theorem runD (c : Dev nD) (i : grid0.Coords) (arg2 : Memref sig .tc .vmem S1152x256 .f32) (harg2 : arg2.IsWhole) (arg3 : Memref sig .tc .vmem S16384x256 .f32) (harg3 : arg3.IsWhole) (arg4 : Memref sig .tc .vmem S4608x1 .f32) (harg4 : arg4.IsWhole) (arg5 : Memref sig .tc .vmem S1152x1 .f32) (harg5 : arg5.IsWhole) (arg6 : Memref sig .tc .vmem S1152x256 .bf16) (harg6 : arg6.IsWhole) (arg7 : Memref sig .tc .vmem S1152x1 .f32) (harg7 : arg7.IsWhole) (arg8 : Memref sig .tc .vmem S1152x1 .i32) (harg8 : arg8.IsWhole) (arg9 : Memref sig .tc .vmem S4x1152x1 .f32) (harg9 : arg9.IsWhole)
    (hc0 : ¬cond0_0 i) (hc1 : ¬cond0_1 i) (hc2 : cond0_2 i) (hc3 : cond0_3 i) (hc4 : cond0_4 i) (hc5 : ¬cond0_5 i)
    (x0 : Vec F S1152x256 .f32) (x1 : Vec F S16384x256 .f32) (x4 : Vec F S4608x1 .f32) (xs0 : Vec F S1152x1 .f32) (xs1 : Vec F S1152x256 .bf16) (xs2 : Vec F S1152x1 .f32) (xs3 : Vec F S1152x1 .i32) (xs4 : Vec F S4x1152x1 .f32) (E : Set ℕ) (K : PUnit → sProp 𝕄) :
    iprop(owns (c : Thread nD τ) arg2 fullShare x0 ∗ owns (c : Thread nD τ) arg3 fullShare x1 ∗ owns (c : Thread nD τ) arg4 fullShare x4 ∗ owns (c : Thread nD τ) arg5 fullShare xs0 ∗ owns (c : Thread nD τ) arg6 fullShare xs1 ∗ owns (c : Thread nD τ) arg7 fullShare xs2 ∗ owns (c : Thread nD τ) arg8 fullShare xs3 ∗ owns (c : Thread nD τ) arg9 fullShare xs4
        ∗ (iprop(owns (c : Thread nD τ) arg2 fullShare x0 ∗ owns (c : Thread nD τ) arg3 fullShare x1 ∗ owns (c : Thread nD τ) arg4 fullShare x4 ∗ owns (c : Thread nD τ) arg5 fullShare xs0 ∗ owns (c : Thread nD τ) arg6 fullShare xs1 ∗ owns (c : Thread nD τ) arg7 fullShare (k0_pay1 (k0_pay13 (tile i x1) xs1 xs0 xs2 xs2)) ∗ owns (c : Thread nD τ) arg8 fullShare (k0_pay14 i (tile i x1) xs1 xs0 xs2 xs3) ∗ owns (c : Thread nD τ) arg9 fullShare ((slab i hc4).overlay xs4 (k0_pay2 (k0_pay14 i (tile i x1) xs1 xs0 xs2 xs3)))) -∗ K ⟨⟩))
      ⊢ wp frame (wpE (defs₀ (F := F)) Variants.none c none) E (cc0__vq_kernel i arg2 harg2 arg3 harg3 arg4 harg4 arg5 harg5 arg6 harg6 arg7 harg7 arg8 harg8 arg9 harg9) K := by
  simp only [cc0__vq_kernel_eq_skeleton]; unfold cc0__vq_kernel_skel
  simp only [k0_part1_eq_skeleton]
  unfold owns
  iintro ⟨⟨%f0, %hf0, H0⟩, ⟨%f1, %hf1, H1⟩, ⟨%f2, %hf2, H2⟩, ⟨%fs0, %hfs0, HS0⟩, ⟨%fs1, %hfs1, HS1⟩, ⟨%fs2, %hfs2, HS2⟩, ⟨%fs3, %hfs3, HS3⟩, ⟨%fs4, %hfs4, HS4⟩, Hk⟩
  obtain rfl := harg2.eq_unread hf0; obtain rfl := harg3.eq_unread hf1; obtain rfl := harg4.eq_unread hf2; obtain rfl := harg5.eq_unread hfs0; obtain rfl := harg6.eq_unread hfs1; obtain rfl := harg7.eq_unread hfs2; obtain rfl := harg8.eq_unread hfs3; obtain rfl := harg9.eq_unread hfs4
  sl_exec (disch := first | sl_exact hc0 | sl_exact hc1 | sl_exact hc2 | sl_exact hc3 | sl_exact hc4 | sl_exact hc5)
  sl_step
  iapply Hk
  isplitl [H0]
  · iexists _; isplitr; swap; · iexact H0
    ipureintro; exact harg2.read_unread _
  isplitl [H1]
  · iexists _; isplitr; swap; · iexact H1
    ipureintro; exact harg3.read_unread _
  isplitl [H2]
  · iexists _; isplitr; swap; · iexact H2
    ipureintro; exact harg4.read_unread _
  isplitl [HS0]
  · iexists _; isplitr; swap; · iexact HS0
    ipureintro; exact harg5.read_unread _
  isplitl [HS1]
  · iexists _; isplitr; swap; · iexact HS1
    ipureintro; exact harg6.read_unread _
  isplitl [HS2]
  · iexists _; isplitr; swap; · iexact HS2
    ipureintro
    sl_unfold_words
    simp only [View.readAt_eq_ld, Memref.IsWhole.read_unread, ld_col, ld_rows, ld_all, cov_col, cov_rows]
    exact View.read_writes_full _ _ _ _ _
  isplitl [HS3]
  · iexists _; isplitr; swap; · iexact HS3
    ipureintro
    sl_unfold_words
    simp only [View.readAt_eq_ld, Memref.IsWhole.read_unread, ld_col, ld_rows, ld_all, cov_col, cov_rows]
    exact View.read_writes_full _ _ _ _ _
  iexists _; isplitr; swap; · iexact HS4
  ipureintro
  sl_unfold_words
  simp only [View.readAt_eq_ld, Memref.IsWhole.read_unread, ld_col, ld_rows, ld_all, cov_col, cov_rows]
  exact read_one _ _ _ _

set_option maxHeartbeats 1600000 in
/-- The body at the last point: as at the last codebook tile of a row tile, and then the result is stored. -/
theorem runE (c : Dev nD) (i : grid0.Coords) (arg2 : Memref sig .tc .vmem S1152x256 .f32) (harg2 : arg2.IsWhole) (arg3 : Memref sig .tc .vmem S16384x256 .f32) (harg3 : arg3.IsWhole) (arg4 : Memref sig .tc .vmem S4608x1 .f32) (harg4 : arg4.IsWhole) (arg5 : Memref sig .tc .vmem S1152x1 .f32) (harg5 : arg5.IsWhole) (arg6 : Memref sig .tc .vmem S1152x256 .bf16) (harg6 : arg6.IsWhole) (arg7 : Memref sig .tc .vmem S1152x1 .f32) (harg7 : arg7.IsWhole) (arg8 : Memref sig .tc .vmem S1152x1 .i32) (harg8 : arg8.IsWhole) (arg9 : Memref sig .tc .vmem S4x1152x1 .f32) (harg9 : arg9.IsWhole)
    (hc0 : ¬cond0_0 i) (hc1 : ¬cond0_1 i) (hc2 : cond0_2 i) (hc3 : cond0_3 i) (hc4 : cond0_4 i) (hc5 : cond0_5 i)
    (x0 : Vec F S1152x256 .f32) (x1 : Vec F S16384x256 .f32) (x4 : Vec F S4608x1 .f32) (xs0 : Vec F S1152x1 .f32) (xs1 : Vec F S1152x256 .bf16) (xs2 : Vec F S1152x1 .f32) (xs3 : Vec F S1152x1 .i32) (xs4 : Vec F S4x1152x1 .f32) (E : Set ℕ) (K : PUnit → sProp 𝕄) :
    iprop(owns (c : Thread nD τ) arg2 fullShare x0 ∗ owns (c : Thread nD τ) arg3 fullShare x1 ∗ owns (c : Thread nD τ) arg4 fullShare x4 ∗ owns (c : Thread nD τ) arg5 fullShare xs0 ∗ owns (c : Thread nD τ) arg6 fullShare xs1 ∗ owns (c : Thread nD τ) arg7 fullShare xs2 ∗ owns (c : Thread nD τ) arg8 fullShare xs3 ∗ owns (c : Thread nD τ) arg9 fullShare xs4
        ∗ (iprop(owns (c : Thread nD τ) arg2 fullShare x0 ∗ owns (c : Thread nD τ) arg3 fullShare x1 ∗ owns (c : Thread nD τ) arg4 fullShare (k0_pay3 ((slab i hc4).overlay xs4 (k0_pay2 (k0_pay14 i (tile i x1) xs1 xs0 xs2 xs3)))) ∗ owns (c : Thread nD τ) arg5 fullShare xs0 ∗ owns (c : Thread nD τ) arg6 fullShare xs1 ∗ owns (c : Thread nD τ) arg7 fullShare (k0_pay1 (k0_pay13 (tile i x1) xs1 xs0 xs2 xs2)) ∗ owns (c : Thread nD τ) arg8 fullShare (k0_pay14 i (tile i x1) xs1 xs0 xs2 xs3) ∗ owns (c : Thread nD τ) arg9 fullShare ((slab i hc4).overlay xs4 (k0_pay2 (k0_pay14 i (tile i x1) xs1 xs0 xs2 xs3)))) -∗ K ⟨⟩))
      ⊢ wp frame (wpE (defs₀ (F := F)) Variants.none c none) E (cc0__vq_kernel i arg2 harg2 arg3 harg3 arg4 harg4 arg5 harg5 arg6 harg6 arg7 harg7 arg8 harg8 arg9 harg9) K := by
  simp only [cc0__vq_kernel_eq_skeleton]; unfold cc0__vq_kernel_skel
  simp only [k0_part1_eq_skeleton]
  unfold owns
  iintro ⟨⟨%f0, %hf0, H0⟩, ⟨%f1, %hf1, H1⟩, ⟨%f2, %hf2, H2⟩, ⟨%fs0, %hfs0, HS0⟩, ⟨%fs1, %hfs1, HS1⟩, ⟨%fs2, %hfs2, HS2⟩, ⟨%fs3, %hfs3, HS3⟩, ⟨%fs4, %hfs4, HS4⟩, Hk⟩
  obtain rfl := harg2.eq_unread hf0; obtain rfl := harg3.eq_unread hf1; obtain rfl := harg4.eq_unread hf2; obtain rfl := harg5.eq_unread hfs0; obtain rfl := harg6.eq_unread hfs1; obtain rfl := harg7.eq_unread hfs2; obtain rfl := harg8.eq_unread hfs3; obtain rfl := harg9.eq_unread hfs4
  sl_exec (disch := first | sl_exact hc0 | sl_exact hc1 | sl_exact hc2 | sl_exact hc3 | sl_exact hc4 | sl_exact hc5)
  sl_step
  iapply Hk
  isplitl [H0]
  · iexists _; isplitr; swap; · iexact H0
    ipureintro; exact harg2.read_unread _
  isplitl [H1]
  · iexists _; isplitr; swap; · iexact H1
    ipureintro; exact harg3.read_unread _
  isplitl [H2]
  · iexists _; isplitr; swap; · iexact H2
    ipureintro
    sl_unfold_words
    simp only [View.readAt_eq_ld, Memref.IsWhole.read_unread, ld_col, ld_rows, ld_all, cov_col, cov_rows]
    refine (View.read_writes_full _ _ _ _ _).trans ?_
    exact congrArg k0_pay3 (read_one _ _ _ _)
  isplitl [HS0]
  · iexists _; isplitr; swap; · iexact HS0
    ipureintro; exact harg5.read_unread _
  isplitl [HS1]
  · iexists _; isplitr; swap; · iexact HS1
    ipureintro; exact harg6.read_unread _
  isplitl [HS2]
  · iexists _; isplitr; swap; · iexact HS2
    ipureintro
    sl_unfold_words
    simp only [View.readAt_eq_ld, Memref.IsWhole.read_unread, ld_col, ld_rows, ld_all, cov_col, cov_rows]
    exact View.read_writes_full _ _ _ _ _
  isplitl [HS3]
  · iexists _; isplitr; swap; · iexact HS3
    ipureintro
    sl_unfold_words
    simp only [View.readAt_eq_ld, Memref.IsWhole.read_unread, ld_col, ld_rows, ld_all, cov_col, cov_rows]
    exact View.read_writes_full _ _ _ _ _
  iexists _; isplitr; swap; · iexact HS4
  ipureintro
  sl_unfold_words
  simp only [View.readAt_eq_ld, Memref.IsWhole.read_unread, ld_col, ld_rows, ld_all, cov_col, cov_rows]
  exact read_one _ _ _ _

end Cert.KernelIdeal.Vq

end
-- ==== Proof.KernelIdeal.VqBody.lean ====
/- The first kernel's pipeline: the state the carried buffers are in after each point of the grid, and the body obligation at it. -/
module

public import proofs.«01_k».proof.Proof.KernelIdeal.VqRun

@[expose] public section

set_option maxRecDepth 16384

noncomputable section

namespace Cert.KernelIdeal.Vq

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
/-! The buffer contents when the pipeline is entered are a parameter `V`. -/
variable (V : (c : Dev nD) → (b : Ref sig .tc) → Buf (Elt F) ((c : Thread nD τ).loc b))

/-- Window `w`'s block at point `t`, read off its array as the pipeline finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The carried state -/

/-- What the carried buffers hold: the squared norms of the row tile, its negated rows, the running minimum and the running index. -/
structure St (F : FTy → Type) [FloatOps F] where
  z2 : Vec F S1152x1 .f32
  zn : Vec F S1152x256 .bf16
  bv : Vec F S1152x1 .f32
  bi : Vec F S1152x1 .i32

/-- The row tile and the codebook at point `t`. -/
abbrev zt (c : Dev nD) (t : Fin cfg0.N) : Vec F S1152x256 .f32 := iblk0 V c 0 t
abbrev ct (c : Dev nD) (t : Fin cfg0.N) : Vec F S16384x256 .f32 := iblk0 V c 1 t

/-- The state after the first codebook tile of a row tile. -/
def first (c : Dev nD) (t : Fin cfg0.N) : St F where
  z2 := k0_pay5 (zt V c t)
  zn := k0_pay6 (zt V c t)
  bv := k0_pay10 (tile (grid0.coords t) (ct V c t)) (k0_pay6 (zt V c t)) (k0_pay5 (zt V c t))
  bi := k0_pay11 (grid0.coords t) (tile (grid0.coords t) (ct V c t)) (k0_pay6 (zt V c t)) (k0_pay5 (zt V c t))

/-- The state after a later codebook tile, from the state before it. -/
def next (c : Dev nD) (t : Fin cfg0.N) (s : St F) : St F where
  z2 := s.z2
  zn := s.zn
  bv := if t.val % 2 = 1 then k0_pay1 (k0_pay13 (tile (grid0.coords t) (ct V c t)) s.zn s.z2 s.bv s.bv)
    else k0_pay13 (tile (grid0.coords t) (ct V c t)) s.zn s.z2 s.bv s.bv
  bi := k0_pay14 (grid0.coords t) (tile (grid0.coords t) (ct V c t)) s.zn s.z2 s.bv s.bi

/-- The state after point `n`. -/
def st (c : Dev nD) : (n : ℕ) → n < cfg0.N → St F
  | 0, h => first V c ⟨0, h⟩
  | n + 1, h => if (n + 1) % 8 = 0 then first V c ⟨n + 1, h⟩ else next V c ⟨n + 1, h⟩ (st c n (Nat.lt_of_succ_lt h))

theorem st_first (c : Dev nD) (t : Fin cfg0.N) (h : t.val % 8 = 0) : st V c t.val t.isLt = first V c t := by
  obtain ⟨n, hn⟩ := t
  cases n with
  | zero => rfl
  | succ n => rw [st, if_pos h]

theorem st_next (c : Dev nD) (t : Fin cfg0.N) (h : ¬ t.val % 8 = 0) :
    st V c t.val t.isLt = next V c t (st V c (t.val - 1) (Nat.lt_of_le_of_lt (Nat.sub_le _ _) t.isLt)) := by
  obtain ⟨n, hn⟩ := t
  cases n with
  | zero => exact absurd rfl h
  | succ n => rw [st, if_neg h]; rfl

/-- The place in its slab of an entry of the index array. -/
def cell (j : S4x1152x1.Idx) : S1x1152x1.Idx := Fin.cons (⟨0, by decide⟩ : Fin 1) (fun a : Fin 2 => j a.succ)

theorem last_lt (j : S4x1152x1.Idx) : 8 * (j 0).val + 7 < cfg0.N := by
  have h : (j 0).val < 4 := (j 0).isLt
  have hN : cfg0.N = 32 := N_0
  omega

/-- The indices of all rows, slab by slab: each slab is what its row tile ends with. -/
def allOf (c : Dev nD) : Vec F S4x1152x1 .f32 := fun j => k0_pay2 (st V c (8 * (j 0).val + 7) (last_lt j)).bi (cell j)

/-- After `n` points the slabs of the finished row tiles are filled. -/
def Filled (c : Dev nD) (n : ℕ) (d : Vec F S4x1152x1 .f32) : Prop := ∀ j, 8 * (j 0).val + 7 < n → d j = allOf V c j

theorem filled_all (c : Dev nD) (d : Vec F S4x1152x1 .f32) (h : Filled V c 32 d) : d = allOf V c :=
  funext fun j => h j (by have h : (j 0).val < 4 := (j 0).isLt; omega)

theorem off2_val (t : Fin cfg0.N) : k0_off2 (grid0.coords t) = ![t.val / 8, 0, 0] := by
  have ht : t.val < 32 := Nat.lt_of_lt_of_eq t.isLt N_0
  have e0 : (grid0.coords t 0).val = t.val / 8 % 4 := Pipeline.Grid.coords_val t 0 (by decide) rfl
  have e : (k0_off2 (grid0.coords t)) 0 = t.val / 8 := by
    simp only [k0_off2, e0, Matrix.cons_val_zero]
    show (BitVec.ofNat 32 (t.val / 8 % 4)).toNat = t.val / 8
    rw [BitVec.toNat_ofNat]; omega
  funext a
  fin_cases a
  · exact e
  · rfl
  · rfl

/-- A point short of the last codebook tile finishes no row tile. -/
theorem filled_keep (c : Dev nD) (t : Fin cfg0.N) (h : ¬ t.val % 8 = 7) (d : Vec F S4x1152x1 .f32) (hd : Filled V c t.val d) :
    Filled V c (t.val + 1) d := fun j hj => hd j (by omega)

/-- The last codebook tile of a row tile fills its slab. -/
theorem filled_slab (c : Dev nD) (t : Fin cfg0.N) (h : t.val % 8 = 7) (h4 : cond0_4 (grid0.coords t)) (d : Vec F S4x1152x1 .f32)
    (hd : Filled V c t.val d) :
    Filled V c (t.val + 1) ((slab (grid0.coords t) h4).overlay d (k0_pay2 (st V c t.val t.isLt).bi)) := fun j hj => by
  by_cases hj' : (j 0).val = t.val / 8
  · have e : (slab (grid0.coords t) h4).emb (cell j) = j := Rect.emb_eq_of_coords _ _ _ fun a => by
      show (j a).val = k0_off2 (grid0.coords t) a + 1 * (cell j a).val
      rw [off2_val]
      fin_cases a
      · show (j 0).val = t.val / 8 + 1 * 0
        omega
      · show (j 1).val = 0 + 1 * (j 1).val
        omega
      · show (j 2).val = 0 + 1 * (j 2).val
        omega
    conv_lhs => rw [← e]
    rw [Rect.overlay_emb]
    unfold allOf
    congr 2
    congr 1
    omega
  · rw [Rect.overlay_of_not_mem _ _ _ (Rect.not_mem_set_of_axis _ j 0 (t.val / 8) 1 (by show k0_off2 (grid0.coords t) 0 = _; rw [off2_val]; rfl) rfl rfl (by omega))]
    exact hd j (by omega)

/-- The buffers beside the carried ones that the pipeline leaves alone. -/
def rest (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f))

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ rest c) ∗ (∃ r, prngReg c r)) := by
  unfold Pipeline.ΦA rest; rw [scopedRest0_eq]; simp only [scM0_0, scM0_1, scM0_2, scM0_3, scM0_4, owns_whole]; try rfl

/-- The carried buffers in state `s`, the index array filled as far as `n` points do. -/
def held (c : Dev nD) (n : ℕ) (s : St F) : sProp 𝕄 :=
  iprop(iprop(owns (c : Thread nD τ) scM0_0 fullShare s.z2 ∗ owns (c : Thread nD τ) scM0_1 fullShare s.zn ∗ owns (c : Thread nD τ) scM0_2 fullShare s.bv ∗ owns (c : Thread nD τ) scM0_3 fullShare s.bi ∗ (∃ d, ⌜Filled V c n d⌝ ∗ owns (c : Thread nD τ) scM0_4 fullShare d) ∗ rest c) ∗ (∃ r, prngReg c r))

/-- The invariant before point `n`. -/
def PhiS (c : Dev nD) : (n : ℕ) → n ≤ cfg0.N → sProp 𝕄
  | 0, _ => Pipeline.ΦA spec0 c
  | n + 1, h => held V c (n + 1) (st V c n h)

theorem PhiS_pos (c : Dev nD) (n : ℕ) (h : n ≤ cfg0.N) (hn : n ≠ 0) :
    PhiS V c n h = held V c n (st V c (n - 1) (by omega)) := by
  cases n with
  | zero => exact absurd rfl hn
  | succ n => rfl

/-- Before any point the carried buffers are held at something, the index array filled as far as it should be. -/
theorem PhiS_some (c : Dev nD) (n : ℕ) (h : n ≤ cfg0.N) :
    PhiS V c n h ⊢ iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, ⌜Filled V c n d⌝ ∗ owns (c : Thread nD τ) scM0_4 fullShare d) ∗ rest c) ∗ (∃ r, prngReg c r)) := by
  cases n with
  | zero =>
    rw [PhiS, PhiA0_eq]
    iintro ⟨⟨HS0, HS1, HS2, HS3, ⟨%d, HS4⟩, HR⟩, Hg⟩
    isplitr [Hg]; swap; · iexact Hg
    isplitl [HS0]; · iexact HS0
    isplitl [HS1]; · iexact HS1
    isplitl [HS2]; · iexact HS2
    isplitl [HS3]; · iexact HS3
    isplitl [HS4]
    · iexists d; isplitr
      · ipureintro; exact fun j hj => absurd hj (Nat.not_lt_zero _)
      iexact HS4
    iexact HR
  | succ n =>
    rw [PhiS]; unfold held
    iintro ⟨⟨HS0, HS1, HS2, HS3, HS4, HR⟩, Hg⟩
    isplitr [Hg]; swap; · iexact Hg
    isplitl [HS0]; · iexists _; iexact HS0
    isplitl [HS1]; · iexists _; iexact HS1
    isplitl [HS2]; · iexists _; iexact HS2
    isplitl [HS3]; · iexists _; iexact HS3
    isplitl [HS4]; · iexact HS4
    iexact HR

/-! ## The proof data -/

/-- The pipeline's proof data: the arrays as found, each input's buffer at its block, the output's at the normalised indices. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay3 (allOf V c)
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay3 (allOf V c) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

theorem leaves0_0 (c : Dev nD) (t : Fin cfg0.N) : (dat0 V c).leavesExact 0 t = owns (c : Thread nD τ) (ms0_0 t) fullShare (iblk0 V c 0 t) := by
  unfold Dat.leavesExact; rw [show cfg0.idle 0 (grid0.coords t) = false from rfl, after0_0]
theorem leaves0_1 (c : Dev nD) (t : Fin cfg0.N) : (dat0 V c).leavesExact 1 t = owns (c : Thread nD τ) (ms0_1 t) fullShare (iblk0 V c 1 t) := by
  unfold Dat.leavesExact; rw [show cfg0.idle 1 (grid0.coords t) = false from rfl, after0_1]

theorem idle0_2 (t : Fin cfg0.N) : cfg0.idle 2 (grid0.coords t) = !(k0_cond6 (grid0.coords t) == 1#1) := rfl

theorem leaves0_2_last (c : Dev nD) (t : Fin cfg0.N) (h : t.val % 32 = 31) :
    (dat0 V c).leavesExact 2 t = owns (c : Thread nD τ) (ms0_2 t) fullShare (k0_pay3 (allOf V c)) := by
  have hi : cfg0.idle 2 (grid0.coords t) = false := by
    rw [idle0_2, show k0_cond6 (grid0.coords t) = 1#1 from (hcond0_5 t).mpr h]; rfl
  unfold Dat.leavesExact; rw [hi, after0_2]

theorem leaves0_2_idle (c : Dev nD) (t : Fin cfg0.N) (h : ¬ t.val % 32 = 31) :
    (dat0 V c).leavesExact 2 t = iprop(∃ d, owns (c : Thread nD τ) (ms0_2 t) fullShare ((dat0 V c).before 2 t d)) := by
  have hi : cfg0.idle 2 (grid0.coords t) = true := by
    rw [idle0_2]
    have : k0_cond6 (grid0.coords t) ≠ 1#1 := fun h' => h ((hcond0_5 t).mp h')
    simp [this]
  have hf : (cfg0.win 2).flush t = false := by
    rw [Bool.eq_false_iff]; exact fun h' => h ((flush0_2 t).mp h')
  exact Dat.leavesExact_idle _ 2 t hi hf

/-- What the body leaves in the output window's buffer, from what it found there. -/
theorem leaves0_2 (c : Dev nD) (t : Fin cfg0.N) (d) :
    owns (c : Thread nD τ) (ms0_2 t) fullShare (if t.val % 32 = 31 then k0_pay3 (allOf V c) else (dat0 V c).before 2 t d)
      ⊢ (dat0 V c).leavesExact 2 t := by
  by_cases h : t.val % 32 = 31
  · rw [if_pos h, leaves0_2_last V c t h]
  · rw [if_neg h, leaves0_2_idle V c t h]
    iintro H; iexists d; iexact H

/-! ## The body obligation -/

/-- The body at any point but the first of a row tile, from the state before it: the runs by case, under one statement. -/
theorem run_next (c : Dev nD) (t : Fin cfg0.N) (h : ¬ t.val % 8 = 0) (s : St F) (hs : next V c t s = st V c t.val t.isLt)
    (x4 : Vec F S4608x1 .f32) (xs4 : Vec F S4x1152x1 .f32) (hx : Filled V c t.val xs4) (E : Set ℕ) (K : PUnit → sProp 𝕄) :
    iprop(owns (c : Thread nD τ) (ms0_0 t) fullShare (zt V c t) ∗ owns (c : Thread nD τ) (ms0_1 t) fullShare (ct V c t) ∗ owns (c : Thread nD τ) (ms0_2 t) fullShare x4
        ∗ owns (c : Thread nD τ) scM0_0 fullShare s.z2 ∗ owns (c : Thread nD τ) scM0_1 fullShare s.zn ∗ owns (c : Thread nD τ) scM0_2 fullShare s.bv ∗ owns (c : Thread nD τ) scM0_3 fullShare s.bi ∗ owns (c : Thread nD τ) scM0_4 fullShare xs4
        ∗ (iprop(owns (c : Thread nD τ) (ms0_0 t) fullShare (zt V c t) ∗ owns (c : Thread nD τ) (ms0_1 t) fullShare (ct V c t) ∗ owns (c : Thread nD τ) (ms0_2 t) fullShare (if t.val % 32 = 31 then k0_pay3 (allOf V c) else x4)
            ∗ owns (c : Thread nD τ) scM0_0 fullShare (next V c t s).z2 ∗ owns (c : Thread nD τ) scM0_1 fullShare (next V c t s).zn ∗ owns (c : Thread nD τ) scM0_2 fullShare (next V c t s).bv ∗ owns (c : Thread nD τ) scM0_3 fullShare (next V c t s).bi
            ∗ (∃ d, ⌜Filled V c (t.val + 1) d⌝ ∗ owns (c : Thread nD τ) scM0_4 fullShare d)) -∗ K ⟨⟩))
      ⊢ wp frame (wpE (defs₀ (F := F)) Variants.none c none) E (bodyAt0 t) K := by
  have ht : t.val < 32 := Nat.lt_of_lt_of_eq t.isLt N_0
  unfold bodyAt0
  have hc0 : ¬ cond0_0 (grid0.coords t) := fun h' => h ((hcond0_0 t).mp h')
  have hc1 : ¬ cond0_1 (grid0.coords t) := fun h' => h ((hcond0_1 t).mp h')
  have hc2 : cond0_2 (grid0.coords t) := (hcond0_2 t).mpr (by omega)
  by_cases h3 : t.val % 2 = 1
  · have hc3 : cond0_3 (grid0.coords t) := (hcond0_3 t).mpr h3
    have ebv : (next V c t s).bv = k0_pay1 (k0_pay13 (tile (grid0.coords t) (ct V c t)) s.zn s.z2 s.bv s.bv) := if_pos h3
    by_cases h4 : t.val % 8 = 7
    · have hc4 : cond0_4 (grid0.coords t) := (hcond0_4 t).mpr h4
      have hf := filled_slab V c t h4 hc4 xs4 hx
      rw [← hs] at hf
      by_cases h5 : t.val % 32 = 31
      · have hc5 : cond0_5 (grid0.coords t) := (hcond0_5 t).mpr h5
        have hall := filled_all V c _ (by rw [show t.val + 1 = 32 by omega] at hf; exact hf)
        rw [if_pos h5, ebv, ← hall]
        iintro ⟨H0, H1, H2, HS0, HS1, HS2, HS3, HS4, Hk⟩
        iapply (runE c (grid0.coords t) _ _ _ _ _ _ _ _ _ _ _ _ _ _ _ _ hc0 hc1 hc2 hc3 hc4 hc5 (zt V c t) (ct V c t) x4 s.z2 s.zn s.bv s.bi xs4 E K)
        isplitl [H0]; · iexact H0
        isplitl [H1]; · iexact H1
        isplitl [H2]; · iexact H2
        isplitl [HS0]; · iexact HS0
        isplitl [HS1]; · iexact HS1
        isplitl [HS2]; · iexact HS2
        isplitl [HS3]; · iexact HS3
        isplitl [HS4]; · iexact HS4
        iintro ⟨H0, H1, H2, HS0, HS1, HS2, HS3, HS4⟩
        iapply Hk
        isplitl [H0]; · iexact H0
        isplitl [H1]; · iexact H1
        isplitl [H2]; · iexact H2
        isplitl [HS0]; · iexact HS0
        isplitl [HS1]; · iexact HS1
        isplitl [HS2]; · iexact HS2
        isplitl [HS3]; · iexact HS3
        iexists _; isplitr; swap; · iexact HS4
        ipureintro; exact hf
      · have hc5 : ¬ cond0_5 (grid0.coords t) := fun h' => h5 ((hcond0_5 t).mp h')
        rw [if_neg h5, ebv]
        iintro ⟨H0, H1, H2, HS0, HS1, HS2, HS3, HS4, Hk⟩
        iapply (runD c (grid0.coords t) _ _ _ _ _ _ _ _ _ _ _ _ _ _ _ _ hc0 hc1 hc2 hc3 hc4 hc5 (zt V c t) (ct V c t) x4 s.z2 s.zn s.bv s.bi xs4 E K)
        isplitl [H0]; · iexact H0
        isplitl [H1]; · iexact H1
        isplitl [H2]; · iexact H2
        isplitl [HS0]; · iexact HS0
        isplitl [HS1]; · iexact HS1
        isplitl [HS2]; · iexact HS2
        isplitl [HS3]; · iexact HS3
        isplitl [HS4]; · iexact HS4
        iintro ⟨H0, H1, H2, HS0, HS1, HS2, HS3, HS4⟩
        iapply Hk
        isplitl [H0]; · iexact H0
        isplitl [H1]; · iexact H1
        isplitl [H2]; · iexact H2
        isplitl [HS0]; · iexact HS0
        isplitl [HS1]; · iexact HS1
        isplitl [HS2]; · iexact HS2
        isplitl [HS3]; · iexact HS3
        iexists _; isplitr; swap; · iexact HS4
        ipureintro; exact hf
    · have hc4 : ¬ cond0_4 (grid0.coords t) := fun h' => h4 ((hcond0_4 t).mp h')
      have hc5 : ¬ cond0_5 (grid0.coords t) := fun h' => (by have := (hcond0_5 t).mp h'; omega)
      rw [if_neg (show ¬ t.val % 32 = 31 by omega), ebv]
      iintro ⟨H0, H1, H2, HS0, HS1, HS2, HS3, HS4, Hk⟩
      iapply (runB c (grid0.coords t) _ _ _ _ _ _ _ _ _ _ _ _ _ _ _ _ hc0 hc1 hc2 hc3 hc4 hc5 (zt V c t) (ct V c t) x4 s.z2 s.zn s.bv s.bi xs4 E K)
      isplitl [H0]; · iexact H0
      isplitl [H1]; · iexact H1
      isplitl [H2]; · iexact H2
      isplitl [HS0]; · iexact HS0
      isplitl [HS1]; · iexact HS1
      isplitl [HS2]; · iexact HS2
      isplitl [HS3]; · iexact HS3
      isplitl [HS4]; · iexact HS4
      iintro ⟨H0, H1, H2, HS0, HS1, HS2, HS3, HS4⟩
      iapply Hk
      isplitl [H0]; · iexact H0
      isplitl [H1]; · iexact H1
      isplitl [H2]; · iexact H2
      isplitl [HS0]; · iexact HS0
      isplitl [HS1]; · iexact HS1
      isplitl [HS2]; · iexact HS2
      isplitl [HS3]; · iexact HS3
      iexists _; isplitr; swap; · iexact HS4
      ipureintro; exact (filled_keep V c t h4 xs4 hx)
  · have hc3 : ¬ cond0_3 (grid0.coords t) := fun h' => h3 ((hcond0_3 t).mp h')
    have hc4 : ¬ cond0_4 (grid0.coords t) := fun h' => (by have := (hcond0_4 t).mp h'; omega)
    have hc5 : ¬ cond0_5 (grid0.coords t) := fun h' => (by have := (hcond0_5 t).mp h'; omega)
    have ebv : (next V c t s).bv = k0_pay13 (tile (grid0.coords t) (ct V c t)) s.zn s.z2 s.bv s.bv := if_neg h3
    rw [if_neg (show ¬ t.val % 32 = 31 by omega), ebv]
    iintro ⟨H0, H1, H2, HS0, HS1, HS2, HS3, HS4, Hk⟩
    iapply (runC c (grid0.coords t) _ _ _ _ _ _ _ _ _ _ _ _ _ _ _ _ hc0 hc1 hc2 hc3 hc4 hc5 (zt V c t) (ct V c t) x4 s.z2 s.zn s.bv s.bi xs4 E K)
    isplitl [H0]; · iexact H0
    isplitl [H1]; · iexact H1
    isplitl [H2]; · iexact H2
    isplitl [HS0]; · iexact HS0
    isplitl [HS1]; · iexact HS1
    isplitl [HS2]; · iexact HS2
    isplitl [HS3]; · iexact HS3
    isplitl [HS4]; · iexact HS4
    iintro ⟨H0, H1, H2, HS0, HS1, HS2, HS3, HS4⟩
    iapply Hk
    isplitl [H0]; · iexact H0
    isplitl [H1]; · iexact H1
    isplitl [H2]; · iexact H2
    isplitl [HS0]; · iexact HS0
    isplitl [HS1]; · iexact HS1
    isplitl [HS2]; · iexact HS2
    isplitl [HS3]; · iexact HS3
    iexists _; isplitr; swap; · iexact HS4
    ipureintro; exact (filled_keep V c t (by omega) xs4 hx)

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t)

theorem sound_body0 (c : Dev nD) (t : Fin cfg0.N) :
    bodyPre0 V c t ⊢ wp frame (wpE (defs₀ (F := F)) Variants.none c none) Set.univ (bodyAt0 t) (fun _ => bodyPost0 V c t) := by
  have ht : t.val < 32 := Nat.lt_of_lt_of_eq t.isLt N_0
  unfold bodyPre0 bodyPost0
  simp only [before0_0, before0_1]
  rw [leaves0_0, leaves0_1, show (dat0 V c).owesAt () t.succ = (dat0 V c).owesAt () t.castSucc from rfl,
    show (dat0 V c).Φ t.succ = held V c (t.val + 1) (st V c t.val t.isLt) from rfl,
    show (dat0 V c).Φ t.castSucc = PhiS V c t.val (Nat.le_of_lt t.isLt) from rfl]
  by_cases h : t.val % 8 = 0
  · have hc0 : cond0_0 (grid0.coords t) := (hcond0_0 t).mpr h
    have hc1 : cond0_1 (grid0.coords t) := (hcond0_1 t).mpr h
    have hc2 : ¬ cond0_2 (grid0.coords t) := fun h' => (by have := (hcond0_2 t).mp h'; omega)
    have hc3 : ¬ cond0_3 (grid0.coords t) := fun h' => (by have := (hcond0_3 t).mp h'; omega)
    have hc4 : ¬ cond0_4 (grid0.coords t) := fun h' => (by have := (hcond0_4 t).mp h'; omega)
    have hc5 : ¬ cond0_5 (grid0.coords t) := fun h' => (by have := (hcond0_5 t).mp h'; omega)
    rw [st_first V c t h]
    unfold held bodyAt0 first
    dsimp only
    iintro ⟨HP, Ho, ⟨%d0, H0⟩, ⟨%d1, H1⟩, ⟨%d2, H2⟩⟩
    ihave HQ := (PhiS_some V c t.val _) $$ HP
    icases HQ with ⟨⟨HS0, HS1, HS2, HS3, ⟨%xs4, %hx, HS4⟩, HR⟩, Hg⟩
    iapply (runA c (grid0.coords t) _ _ _ _ _ _ _ _ _ _ _ _ _ _ _ _ hc0 hc1 hc2 hc3 hc4 hc5 (zt V c t) (ct V c t) _ xs4 Set.univ _)
    isplitl [H0]; · iexact H0
    isplitl [H1]; · iexact H1
    isplitl [H2]; · iexact H2
    isplitl [HS0]; · iexact HS0
    isplitl [HS1]; · iexact HS1
    isplitl [HS2]; · iexact HS2
    isplitl [HS3]; · iexact HS3
    isplitl [HS4]; · iexact HS4
    iintro ⟨H0, H1, H2, HS0, HS1, HS2, HS3, HS4⟩
    isplitl [HS0 HS1 HS2 HS3 HS4 HR Hg]
    · isplitr [Hg]; swap; · iexact Hg
      isplitl [HS0]; · iexact HS0
      isplitl [HS1]; · iexact HS1
      isplitl [HS2]; · iexact HS2
      isplitl [HS3]; · iexact HS3
      isplitl [HS4]
      · iexists xs4; isplitr
        · ipureintro; exact filled_keep V c t (by omega) xs4 hx
        iexact HS4
      iexact HR
    isplitl [Ho]; · iexact Ho
    isplitl [H0]; · iexact H0
    isplitl [H1]; · iexact H1
    iapply (leaves0_2 V c t d2)
    rw [if_neg (show ¬ t.val % 32 = 31 by omega)]
    iexact H2
  · rw [PhiS_pos V c t.val _ (fun e => h (by rw [e])), st_next V c t h]
    unfold held
    iintro ⟨⟨⟨HS0, HS1, HS2, HS3, ⟨%xs4, %hx, HS4⟩, HR⟩, Hg⟩, Ho, ⟨%d0, H0⟩, ⟨%d1, H1⟩, ⟨%d2, H2⟩⟩
    iapply (run_next V c t h (st V c (t.val - 1) _) (st_next V c t h).symm _ xs4 hx Set.univ _)
    isplitl [H0]; · iexact H0
    isplitl [H1]; · iexact H1
    isplitl [H2]; · iexact H2
    isplitl [HS0]; · iexact HS0
    isplitl [HS1]; · iexact HS1
    isplitl [HS2]; · iexact HS2
    isplitl [HS3]; · iexact HS3
    isplitl [HS4]; · iexact HS4
    iintro ⟨H0, H1, H2, HS0, HS1, HS2, HS3, HS4⟩
    isplitl [HS0 HS1 HS2 HS3 HS4 HR Hg]
    · isplitr [Hg]; swap; · iexact Hg
      isplitl [HS0]; · iexact HS0
      isplitl [HS1]; · iexact HS1
      isplitl [HS2]; · iexact HS2
      isplitl [HS3]; · iexact HS3
      isplitl [HS4]; · iexact HS4
      iexact HR
    isplitl [Ho]; · iexact Ho
    isplitl [H0]; · iexact H0
    isplitl [H1]; · iexact H1
    iapply (leaves0_2 V c t d2)
    iexact H2

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The body obligation, at every point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-- The pipeline starts with the carried buffers at anything. -/
theorem hin0 (c : Dev nD) : Pipeline.ΦA spec0 c ⊢ (dat0 V c).Φ 0 := by
  rw [show (dat0 V c).Φ 0 = Pipeline.ΦA spec0 c from rfl]
  try exact Idealize.SL.BI.Entails.refl _

/-- At the end the carried buffers' contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl, PhiA0_eq]
  refine BIBase.Entails.trans (PhiS_some V c _ _) ?_
  iintro ⟨⟨HS0, HS1, HS2, HS3, ⟨%d, -, HS4⟩, HR⟩, Hg⟩
  isplitr [Hg]; swap; · iexact Hg
  isplitl [HS0]; · iexact HS0
  isplitl [HS1]; · iexact HS1
  isplitl [HS2]; · iexact HS2
  isplitl [HS3]; · iexact HS3
  isplitl [HS4]; · iexists d; iexact HS4
  iexact HR

end Region

end Cert.KernelIdeal.Vq

end
-- ==== Proof.KernelIdeal.EmbBody.lean ====
/- The second kernel: what its one run leaves in the result's buffer. -/
module

public import proofs.«01_k».proof.Proof.KernelIdeal.VqBody

@[expose] public section

set_option maxRecDepth 16384

noncomputable section

namespace Cert.KernelIdeal.Vq

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
/-! The buffer contents when the pipeline is entered are a parameter `V`. -/
variable (V : (c : Dev nD) → (b : Ref sig .tc) → Buf (Elt F) ((c : Thread nD τ).loc b))

/-- Window `w`'s block, read off its array as the pipeline finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input's staging buffer holds its block, if the body leaves it in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S8x147456 := Rect.unit (s := S8x147456) ![0, 0] S8x147456.size inb_S8x147456_S8x147456_0_0
abbrev r1_1 : Rect S8x3 := Rect.unit (s := S8x3) ![0, 0] S8x3.size inb_S8x3_S8x3_0_0
abbrev r1_2 : Rect S3x598 := Rect.unit (s := S3x598) ![0, 0] S3x598.size inb_S3x598_S3x598_0_0
abbrev r1_3 : Rect S1x598 := Rect.unit (s := S1x598) ![0, 0] S1x598.size inb_S1x598_S1x598_0_0
abbrev r1_4 : Rect S8x598 := Rect.unit (s := S8x598) ![0, 0] S8x598.size inb_S8x598_S8x598_0_0

/-- What the body leaves in the result's buffer, from the four input blocks. -/
def out1_4 (x0 : Vec F S8x147456 .f32) (x1 : Vec F S8x3 .f32) (x2 : Vec F S3x598 .f32) (x3 : Vec F S1x598 .f32) : Vec F S8x598 .f32 :=
  View.canon [⟨r1_4, k1_pay1 (View.ld x0 r1_0) (View.ld x1 r1_1) (View.ld x2 r1_2) (View.ld x3 r1_3)⟩]

/-- Its one store covers the buffer. -/
theorem cover1_4 (p0 : Vec F S8x598 .f32) (y : S8x598.Idx) :
    ∃ pc ∈ ([⟨r1_4, p0⟩] : List (View.Piece (Elt F) S8x598 .f32)), y ∈ pc.1.set :=
  View.cover_of_tiled [⟨r1_4, p0⟩] S8x598.size (by rfl) y

set_option maxHeartbeats 1000000 in
/-- The body, on buffers that hold the four inputs, leaves the result. -/
theorem sound_kernel1 (c : Dev nD) (E : Set ℕ) (arg0 : Memref sig .tc .vmem S8x147456 .f32) (harg0 : arg0.IsWhole) (arg1 : Memref sig .tc .vmem S8x3 .f32) (harg1 : arg1.IsWhole) (arg2 : Memref sig .tc .vmem S3x598 .f32) (harg2 : arg2.IsWhole) (arg3 : Memref sig .tc .vmem S1x598 .f32) (harg3 : arg3.IsWhole) (arg4 : Memref sig .tc .vmem S8x598 .f32) (harg4 : arg4.IsWhole)
    (x0 : Vec F S8x147456 .f32) (x1 : Vec F S8x3 .f32) (x2 : Vec F S3x598 .f32) (x3 : Vec F S1x598 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out1_4 x0 x1 x2 x3)) -∗ K ⟨⟩))
      ⊢ wp frame (wpE (defs₀ (F := F)) Variants.none c none) E (cc1__emb_kernel arg0 harg0 arg1 harg1 arg2 harg2 arg3 harg3 arg4 harg4) K := by
  simp only [cc1__emb_kernel_eq_skeleton]; unfold cc1__emb_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-- The proof data: the arrays as found, every input left in place, the result at what the body leaves. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem defs₀_row1 (t : Fin cfg1.N) :
    defs₀ (F := F) .tc cfg1.body (cfg1.bodyArgs t (cfg1.slots t)) = bodyAt1 t := by
  unfold defs₀; rw [Defs.onTc_tc]

/-- The body obligation. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Region

end Cert.KernelIdeal.Vq

end
-- ==== Proof.KernelIdeal.Run.lean ====
/- The program's run: its two kernels between their host reshapes, from the launch to the return. -/
module

public import proofs.«01_k».proof.Proof.KernelIdeal.EmbBody

@[expose] public section

set_option maxRecDepth 16384

noncomputable section

namespace Cert.KernelIdeal.Vq

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The argument arrays. -/
abbrev argRefs : List (Ref sig .tc) := [main_arg0, main_arg1, main_arg2, main_arg3, main_arg4, main_arg5]

theorem hostOps0_fresh : (hostOps0 : List (HloOp τ sig (Elt F))).Forall fun op => op.fresh = ∅ := by
  simp only [List.Forall]; repeat' constructor
abbrev hostOps0_W : List (Ref sig .tc) := [main_v0]
theorem hostOps0_writes : (hostOps0 : List (HloOp τ sig (Elt F))).Forall fun op => op.writes ⊆ (hostOps0_W.map (Proc.devRef (τ := τ) .tc)).toFinset :=
  StableHlo.forall_writes_sub_of_map rfl
theorem hostOps0_args : ∀ a ∈ argRefs, a ∉ hostOps0_W := ListAll.forall_mem_of_all_decide (by decide +kernel)

theorem hostOps1_fresh : (hostOps1 : List (HloOp τ sig (Elt F))).Forall fun op => op.fresh = ∅ := by
  simp only [List.Forall]; repeat' constructor
abbrev hostOps1_W : List (Ref sig .tc) := [main_v2, main_v3]
theorem hostOps1_writes : (hostOps1 : List (HloOp τ sig (Elt F))).Forall fun op => op.writes ⊆ (hostOps1_W.map (Proc.devRef (τ := τ) .tc)).toFinset :=
  StableHlo.forall_writes_sub_of_map rfl
theorem hostOps1_args : ∀ a ∈ argRefs, a ∉ hostOps1_W := ListAll.forall_mem_of_all_decide (by decide +kernel)

theorem hostOps2_fresh : (hostOps2 : List (HloOp τ sig (Elt F))).Forall fun op => op.fresh = ∅ := by
  simp only [List.Forall]; repeat' constructor
abbrev hostOps2_W : List (Ref sig .tc) := [main_v5, main_v6, main_v7]
theorem hostOps2_writes : (hostOps2 : List (HloOp τ sig (Elt F))).Forall fun op => op.writes ⊆ (hostOps2_W.map (Proc.devRef (τ := τ) .tc)).toFinset :=
  StableHlo.forall_writes_sub_of_map rfl
theorem hostOps2_args : ∀ a ∈ argRefs, a ∉ hostOps2_W := ListAll.forall_mem_of_all_decide (by decide +kernel)

/-- The buffers at launch, -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl

/-- after the reshape of the rows, -/
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
abbrev V1 : (c : Dev nD) → (b : Ref sig .tc) → Buf (Elt F) ((c : Thread nD τ).loc b) := fun c b => W1 m ρ c b
/-- after the first kernel: its output array at what the pipeline leaves, every other buffer as it was, -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- after the reshapes of the depth and the bias, -/
abbrev W3 : Dev nD → Valuation τ sig (Elt F) := fun c => StableHlo.after hostOps1 (W2 m ρ c)
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
abbrev V3 : (c : Dev nD) → (b : Ref sig .tc) → Buf (Elt F) ((c : Thread nD τ).loc b) := fun c b => W3 m ρ c b
/-- after the second kernel, -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- and at the return. -/
abbrev W5 : Dev nD → Valuation τ sig (Elt F) := fun c => StableHlo.after hostOps2 (W4 m ρ c)
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)

/-- No pipeline has a prefetched table. -/
abbrev adm : (p : Fin 2) → (pcfgs (F := F) p).Adm := fun p => (cfgs p).toPCfg_adm
/-- The two pipelines' proof data, each at the contents it is entered with. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides along: the generator register, and nothing owed. -/
abbrev R (c : Dev nD) : sProp 𝕄 := iprop((∃ r, prngReg c r) ∗ ∃ W, owes (c : Thread nD τ) (0 : CellTallies nD τ sig Unit) W)
/-- A stretch of host operations as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem args_unscoped : ∀ a ∈ argRefs, ¬ (Proc.devRef .tc a : DevRef τ sig).isScoped := by decide

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- What is held at the return. -/
abbrev Tₙ (c : Dev nD) : sProp 𝕄 := iprop(StableHlo.held (c : Thread nD τ) (Pipeline.ucRefs τ sig) (W5 m ρ c) ∗ ∃ r, prngReg c r)

set_option backward.isDefEq.respectTransparency.types false in
/-- The first kernel as a segment. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m ρ) c)
    unfold Pipeline.ΦA
    iintro ⟨Hp, -, Hr⟩
    isplitl [Hr]; · iexact Hr
    iexact Hp
  hout c := by
    rw [Pipeline.ownSems0_none]
    refine BIBase.Entails.trans (hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second kernel as a segment. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The program as its five segments. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- The program is the run of its segments. -/
theorem main_run (c : Dev nD) : main (F := F) c = Pipeline.Seg.run (segs m ρ) := (main_chain c).trans (by chain_rfl)

theorem no_unscoped : ∀ sm : SemLoc sig, sm.isScoped .tc = true := by decide

set_option backward.isDefEq.respectTransparency.types false in
/-- Every execution ends, with every buffer at its contents at the return and every counter at zero. -/
theorem run_all : θ_run defs (onTc (τ := τ) (main (F := F))) ⟨m, fun _ => 0, ρ⟩ (fun r =>
      (∀ c : Dev nD, ∀ b ∈ Pipeline.ucRefs τ sig, r.2.mem (((c : Thread nD τ)).1, b) = W5 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨h, funext fun g => hz g (.inr (no_unscoped g.2))⟩)

/-- The run, read at the arguments and the two results. -/
theorem run_main : θ_run defs (onTc (τ := τ) (main (F := F))) ⟨m, fun _ => 0, ρ⟩ (fun r =>
      (∀ c : Dev nD, (∀ a ∈ argRefs, r.2.mem ((c.tc : Thread nD τ).loc a) = m ((c.tc : Thread nD τ).loc a))
        ∧ r.2.mem ((c.tc : Thread nD τ).loc main_v6) = W5 m ρ c (Proc.devRef .tc main_v6)
        ∧ r.2.mem ((c.tc : Thread nD τ).loc main_v7) = W5 m ρ c (Proc.devRef .tc main_v7)) ∧ r.2.sem = fun _ => 0) :=
  (θ_run defs _ _).mono (fun r h => ⟨fun c => ⟨fun a ha => (h.1 c _ (mem_uc a (args_unscoped a ha))).trans (W5_args m ρ c a ha),
    h.1 c _ (mem_uc main_v6 (by decide)), h.1 c _ (mem_uc main_v7 (by decide))⟩, h.2⟩) (run_all m ρ)

/-- The frame: every execution ends, the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c =>
    ⟨(h.1 c).1 main_arg0 (by decide), (h.1 c).1 main_arg1 (by decide), (h.1 c).1 main_arg2 (by decide), (h.1 c).1 main_arg3 (by decide),
      (h.1 c).1 main_arg4 (by decide), (h.1 c).1 main_arg5 (by decide)⟩, h.2⟩) (run_main m ρ)

end Cert.KernelIdeal.Vq

end
-- ==== Proof.RefRun.lean ====
/- The plain program's run: a straight line of array operations, whose two results are the functions `condition` and
   `embeddings` of the arguments. -/
module

public import Idealize.ShloMosaic.Lib.StableHlo.Run
public import Idealize.ShloMosaic.Lib.Quiescent
public import proofs.«01_k».proof.Proof.Gen.ReferenceIdeal

@[expose] public section

set_option maxRecDepth 16384

noncomputable section

namespace Cert.ReferenceIdeal.Plain

open Cert.ReferenceIdeal.Gen
open Idealize.ShloMosaic Idealize.ShloMosaic.TcCoe Idealize.ShloMosaic.StableHlo Idealize.SL.Sem

variable {F : FTy → Type} [FloatOps F]

/-- The squared distance of every row to every code, as the plain program adds it up. -/
def dist (z : Vec F S8x576x256 .f32) (cb : Vec F S16384x256 .f32) : Vec F S8x576x16384 .f32 :=
  subf (addf
      (broadcastInDim S8x576x16384 ![0, 1, 2] bcast_S8x576x1_S8x576x16384_0_1_2
        (broadcastInDim S8x576x1 ![0, 1] bcast_S8x576_S8x576x1_0_1
          (Host.reduceAdd (mulf z z) (constant S_ .f32 0x00000000#32) reducesTo_S8x576x256_S8x576_d2 h_S_)))
      (broadcastInDim S8x576x16384 ![0, 1, 2] bcast_S1x1x16384_S8x576x16384_0_1_2
        (broadcastInDim S1x1x16384 ![2] bcast_S16384_S1x1x16384_2
          (Host.reduceAdd (mulf cb cb) (constant S_ .f32 0x00000000#32) reducesTo_S16384x256_S16384_d1 h_S_))))
    (mulf (broadcastInDim S8x576x16384 ![] bcast_S_S8x576x16384 (constant S_ .f32 0x40000000#32))
      (Host.dotGeneral dot_S8x576x256_S16384x256_S8x576x16384_2_1_01_0_n_n none z cb))

/-- The index of the nearest code of every row. -/
def codes (d : Vec F S8x576x16384 .f32) : Vec F S8x576 .i32 := fun j =>
  (Host.argReduce reducer_argmin_f32_i32 d (iotaInDim S8x576x16384 32 2) (constant S_ .f32 0x7F800000#32) (constantI S_ 32 0#32)
    reducesTo_S8x576x16384_S8x576_d2 h_S_ j).2

/-- The indices as floats, beside a unit axis. -/
def asFloat (x : Vec F S8x576 .i32) : Vec F S8x1x576 .f32 :=
  sitofp .f32 (broadcastInDim S8x1x576 ![0, 2] bcast_S8x576_S8x1x576_0_2 x)

/-- An array over 8 x 1 x 576 scaled by its least and greatest entries. -/
def scale576 (x : Vec F S8x1x576 .f32) : Vec F S8x1x576 .f32 :=
  addf (mulf (Host.divf
      (subf x (broadcastInDim S8x1x576 ![] bcast_S_S8x1x576
        (Host.reduce FloatOps.minimumf x (constant S_ .f32 0x7F800000#32) reducesTo_S8x1x576_S_d0_1_2 h_S_)))
      (broadcastInDim S8x1x576 ![] bcast_S_S8x1x576
        (subf (Host.reduce FloatOps.maximumf x (constant S_ .f32 0xFF800000#32) reducesTo_S8x1x576_S_d0_1_2 h_S_)
          (Host.reduce FloatOps.minimumf x (constant S_ .f32 0x7F800000#32) reducesTo_S8x1x576_S_d0_1_2 h_S_))))
      (broadcastInDim S8x1x576 ![] bcast_S_S8x1x576 (constant S_ .f32 0x3F800000#32)))
    (broadcastInDim S8x1x576 ![] bcast_S_S8x1x576 (constant S_ .f32 0x00000000#32))

/-- An array over 8 x 1 x 598 scaled by its least and greatest entries. -/
def scale598 (x : Vec F S8x1x598 .f32) : Vec F S8x1x598 .f32 :=
  addf (mulf (Host.divf
      (subf x (broadcastInDim S8x1x598 ![] bcast_S_S8x1x598
        (Host.reduce FloatOps.minimumf x (constant S_ .f32 0x7F800000#32) reducesTo_S8x1x598_S_d0_1_2 h_S_)))
      (broadcastInDim S8x1x598 ![] bcast_S_S8x1x598
        (subf (Host.reduce FloatOps.maximumf x (constant S_ .f32 0xFF800000#32) reducesTo_S8x1x598_S_d0_1_2 h_S_)
          (Host.reduce FloatOps.minimumf x (constant S_ .f32 0x7F800000#32) reducesTo_S8x1x598_S_d0_1_2 h_S_))))
      (broadcastInDim S8x1x598 ![] bcast_S_S8x1x598 (constant S_ .f32 0x3F800000#32)))
    (broadcastInDim S8x1x598 ![] bcast_S_S8x1x598 (constant S_ .f32 0x00000000#32))

/-- The greatest depth of every image, -/
def top (d : Vec F S8x384x384 .f32) : Vec F S8 .f32 :=
  Host.reduce FloatOps.maximumf d (constant S_ .f32 0xFF800000#32) reducesTo_S8x384x384_S8_d1_2 h_S_

/-- one ten-thousandth in its place where it is zero, -/
def alpha (d : Vec F S8x384x384 .f32) : Vec F S8 .f32 :=
  select (cmpf .oeq (top d) (broadcastInDim S8 ![] bcast_S_S8 (constant S_ .f32 0x00000000#32)))
    (broadcastInDim S8 ![] bcast_S_S8 (constant S_ .f32 0x38D1B717#32)) (top d)

/-- and the affine image of the translation scaled by it. -/
def affine (d : Vec F S8x384x384 .f32) (t : Vec F S8x3 .f32) (W : Vec F S3x598 .f32) (b : Vec F S598 .f32) : Vec F S8x598 .f32 :=
  addf (Host.dotGeneral dot_S8x3_S3x598_S8x598_1_0_0_1_n_n none
      (mulf t (broadcastInDim S8x3 ![0, 1] bcast_S8x1_S8x3_0_1 (broadcastInDim S8x1 ![0] bcast_S8_S8x1_0 (alpha d)))) W)
    (broadcastInDim S8x598 ![0, 1] bcast_S1x598_S8x598_0_1 (broadcastInDim S1x598 ![1] bcast_S598_S1x598_1 b))

/-- The first result: the nearest codes' indices, scaled. -/
def condition (z : Vec F S8x576x256 .f32) (cb : Vec F S16384x256 .f32) : Vec F S8x1x576 .f32 :=
  scale576 (asFloat (codes (dist z cb)))

/-- The second result: the affine image, scaled. -/
def embeddings (d : Vec F S8x384x384 .f32) (t : Vec F S8x3 .f32) (W : Vec F S3x598 .f32) (b : Vec F S598 .f32) : Vec F S8x1x598 .f32 :=
  scale598 (broadcastInDim S8x1x598 ![0, 2] bcast_S8x598_S8x1x598_0_2 (affine d t W b))

/-- @main's operations, in order. -/
abbrev ops : List (HloOp τ sig (Elt F)) :=
  [ binary main_arg0 main_arg0 main_v0 mulf,
    nullary main_cst (constant S_ .f32 0x00000000#32),
    binary main_v0 main_cst main_v1 (fun x v => Host.reduceAdd x v reducesTo_S8x576x256_S8x576_d2 h_S_),
    unary main_v1 main_v2 (broadcastInDim S8x576x1 ![0, 1] bcast_S8x576_S8x576x1_0_1),
    binary main_arg1 main_arg1 main_v3 mulf,
    nullary main_cst_0 (constant S_ .f32 0x00000000#32),
    binary main_v3 main_cst_0 main_v4 (fun x v => Host.reduceAdd x v reducesTo_S16384x256_S16384_d1 h_S_),
    binary main_arg0 main_arg1 main_v5 (fun l r => Host.dotGeneral dot_S8x576x256_S16384x256_S8x576x16384_2_1_01_0_n_n none l r),
    unary main_v4 main_v6 (broadcastInDim S1x1x16384 ![2] bcast_S16384_S1x1x16384_2),
    unary main_v2 main_v7 (broadcastInDim S8x576x16384 ![0, 1, 2] bcast_S8x576x1_S8x576x16384_0_1_2),
    unary main_v6 main_v8 (broadcastInDim S8x576x16384 ![0, 1, 2] bcast_S1x1x16384_S8x576x16384_0_1_2),
    binary main_v7 main_v8 main_v9 addf,
    nullary main_cst_1 (constant S_ .f32 0x40000000#32),
    unary main_cst_1 main_v10 (broadcastInDim S8x576x16384 ![] bcast_S_S8x576x16384),
    binary main_v10 main_v5 main_v11 mulf,
    binary main_v9 main_v11 main_v12 subf,
    nullary main_call0_v0 (iotaInDim S8x576x16384 32 2),
    nullary main_call0_cst (constant S_ .f32 0x7F800000#32),
    nullary main_call0_c (constantI S_ 32 0#32),
    quaternary main_v12 main_call0_v0 main_call0_cst main_call0_c main_call0_v1_0 (fun x y u v j => (Host.argReduce reducer_argmin_f32_i32 x y u v reducesTo_S8x576x16384_S8x576_d2 h_S_ j).1),
    quaternary main_v12 main_call0_v0 main_call0_cst main_call0_c main_v13 (fun x y u v j => (Host.argReduce reducer_argmin_f32_i32 x y u v reducesTo_S8x576x16384_S8x576_d2 h_S_ j).2),
    nullary main_cst_2 (constant S_ .f32 0xFF800000#32),
    binary main_arg2 main_cst_2 main_v14 (fun x v => Host.reduce FloatOps.maximumf x v reducesTo_S8x384x384_S8_d1_2 h_S_),
    nullary main_cst_3 (constant S_ .f32 0x00000000#32),
    unary main_cst_3 main_v15 (broadcastInDim S8 ![] bcast_S_S8),
    binary main_v14 main_v15 main_v16 (cmpf .oeq),
    nullary main_cst_4 (constant S_ .f32 0x38D1B717#32),
    unary main_cst_4 main_call1_v0 id,
    unary main_call1_v0 main_call1_v1 (broadcastInDim S8 ![] bcast_S_S8),
    ternary main_v16 main_call1_v1 main_v14 main_v17 select,
    unary main_v17 main_v18 (broadcastInDim S8x1 ![0] bcast_S8_S8x1_0),
    unary main_v18 main_v19 (broadcastInDim S8x3 ![0, 1] bcast_S8x1_S8x3_0_1),
    binary main_arg3 main_v19 main_v20 mulf,
    binary main_v20 main_arg4 main_v21 (fun l r => Host.dotGeneral dot_S8x3_S3x598_S8x598_1_0_0_1_n_n none l r),
    unary main_arg5 main_v22 (broadcastInDim S1x598 ![1] bcast_S598_S1x598_1),
    unary main_v22 main_v23 (broadcastInDim S8x598 ![0, 1] bcast_S1x598_S8x598_0_1),
    binary main_v21 main_v23 main_v24 addf,
    unary main_v24 main_v25 (broadcastInDim S8x1x598 ![0, 2] bcast_S8x598_S8x1x598_0_2),
    unary main_v13 main_v26 (broadcastInDim S8x1x576 ![0, 2] bcast_S8x576_S8x1x576_0_2),
    unary main_v26 main_v27 (sitofp .f32),
    nullary main_cst_5 (constant S_ .f32 0x7F800000#32),
    binary main_v27 main_cst_5 main_v28 (fun x v => Host.reduce FloatOps.minimumf x v reducesTo_S8x1x576_S_d0_1_2 h_S_),
    nullary main_cst_6 (constant S_ .f32 0xFF800000#32),
    binary main_v27 main_cst_6 main_v29 (fun x v => Host.reduce FloatOps.maximumf x v reducesTo_S8x1x576_S_d0_1_2 h_S_),
    unary main_v28 main_v30 (broadcastInDim S8x1x576 ![] bcast_S_S8x1x576),
    binary main_v27 main_v30 main_v31 subf,
    binary main_v29 main_v28 main_v32 subf,
    unary main_v32 main_v33 (broadcastInDim S8x1x576 ![] bcast_S_S8x1x576),
    binary main_v31 main_v33 main_v34 Host.divf,
    nullary main_cst_7 (constant S_ .f32 0x3F800000#32),
    unary main_cst_7 main_v35 (broadcastInDim S8x1x576 ![] bcast_S_S8x1x576),
    binary main_v34 main_v35 main_v36 mulf,
    nullary main_cst_8 (constant S_ .f32 0x00000000#32),
    unary main_cst_8 main_v37 (broadcastInDim S8x1x576 ![] bcast_S_S8x1x576),
    binary main_v36 main_v37 main_v38 addf,
    nullary main_cst_9 (constant S_ .f32 0x7F800000#32),
    binary main_v25 main_cst_9 main_v39 (fun x v => Host.reduce FloatOps.minimumf x v reducesTo_S8x1x598_S_d0_1_2 h_S_),
    nullary main_cst_10 (constant S_ .f32 0xFF800000#32),
    binary main_v25 main_cst_10 main_v40 (fun x v => Host.reduce FloatOps.maximumf x v reducesTo_S8x1x598_S_d0_1_2 h_S_),
    unary main_v39 main_v41 (broadcastInDim S8x1x598 ![] bcast_S_S8x1x598),
    binary main_v25 main_v41 main_v42 subf,
    binary main_v40 main_v39 main_v43 subf,
    unary main_v43 main_v44 (broadcastInDim S8x1x598 ![] bcast_S_S8x1x598),
    binary main_v42 main_v44 main_v45 Host.divf,
    nullary main_cst_11 (constant S_ .f32 0x3F800000#32),
    unary main_cst_11 main_v46 (broadcastInDim S8x1x598 ![] bcast_S_S8x1x598),
    binary main_v45 main_v46 main_v47 mulf,
    nullary main_cst_12 (constant S_ .f32 0x00000000#32),
    unary main_cst_12 main_v48 (broadcastInDim S8x1x598 ![] bcast_S_S8x1x598),
    binary main_v47 main_v48 main_v49 addf ]

set_option maxHeartbeats 4000000 in
/-- @main is that straight line. -/
theorem main_eq (c : Dev nD) : main (F := F) c = seq ops := rfl

set_option maxHeartbeats 4000000 in
/-- What the line leaves in the first result's buffer, -/
theorem condition_eq (V : Valuation τ sig (Elt F)) :
    after ops V (main_v38 : DevRef τ sig) = condition (V (main_arg0 : DevRef τ sig)) (V (main_arg1 : DevRef τ sig)) := by
  after_results_simp
  rfl

set_option maxHeartbeats 4000000 in
/-- in the second's, -/
theorem embeddings_eq (V : Valuation τ sig (Elt F)) :
    after ops V (main_v49 : DevRef τ sig) = embeddings (V (main_arg2 : DevRef τ sig)) (V (main_arg3 : DevRef τ sig))
      (V (main_arg4 : DevRef τ sig)) (V (main_arg5 : DevRef τ sig)) := by
  after_results_simp
  rfl

/-- The buffers the line writes, -/
abbrev written : List (Ref sig .tc) :=
  [main_v0, main_cst, main_v1, main_v2, main_v3, main_cst_0, main_v4, main_v5, main_v6, main_v7, main_v8, main_v9, main_cst_1, main_v10, main_v11, main_v12, main_call0_v0, main_call0_cst, main_call0_c, main_call0_v1_0, main_v13, main_cst_2, main_v14, main_cst_3, main_v15, main_v16, main_cst_4, main_call1_v0, main_call1_v1, main_v17, main_v18, main_v19, main_v20, main_v21, main_v22, main_v23, main_v24, main_v25, main_v26, main_v27, main_cst_5, main_v28, main_cst_6, main_v29, main_v30, main_v31, main_v32, main_v33, main_v34, main_cst_7, main_v35, main_v36, main_cst_8, main_v37, main_v38, main_cst_9, main_v39, main_cst_10, main_v40, main_v41, main_v42, main_v43, main_v44, main_v45, main_cst_11, main_v46, main_v47, main_cst_12, main_v48, main_v49]

theorem ops_writes : (ops : List (HloOp τ sig (Elt F))).Forall fun op => op.writes ⊆ (written.map (Proc.devRef (τ := τ) .tc)).toFinset :=
  forall_writes_sub_of_map rfl

/-- so an argument keeps its contents. -/
theorem arg_eq (V : Valuation τ sig (Elt F)) (r : Ref sig .tc) (h : r ∉ written) :
    after ops V (Proc.devRef .tc r) = V (Proc.devRef .tc r) :=
  after_of_writes_sub ops _ ops_writes h

theorem scopedRefs_eq : (Finset.univ.filter fun b : Ref sig .tc => b.isScoped) = ∅ := by decide
theorem scopedSems_eq : (Finset.univ.filter fun sm : SemLoc sig => sm.isScoped .tc) = ∅ := by decide

/-- Every operation touches the core's own references only. -/
theorem ops_sub : (ops : List (HloOp τ sig (Elt F))).Forall fun op => op.bufs ⊆ tcRefs τ sig :=
  ⟨binary_bufs_sub .., nullary_bufs_sub .., binary_bufs_sub .., unary_bufs_sub .., binary_bufs_sub .., nullary_bufs_sub .., binary_bufs_sub .., binary_bufs_sub .., unary_bufs_sub .., unary_bufs_sub .., unary_bufs_sub .., binary_bufs_sub .., nullary_bufs_sub .., unary_bufs_sub .., binary_bufs_sub .., binary_bufs_sub .., nullary_bufs_sub .., nullary_bufs_sub .., nullary_bufs_sub .., quaternary_bufs_sub .., quaternary_bufs_sub .., nullary_bufs_sub .., binary_bufs_sub .., nullary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., unary_bufs_sub .., binary_bufs_sub .., unary_bufs_sub .., unary_bufs_sub .., unary_bufs_sub .., nullary_bufs_sub .., binary_bufs_sub .., nullary_bufs_sub .., binary_bufs_sub .., unary_bufs_sub .., binary_bufs_sub .., binary_bufs_sub .., unary_bufs_sub .., binary_bufs_sub .., nullary_bufs_sub .., unary_bufs_sub .., binary_bufs_sub .., nullary_bufs_sub .., unary_bufs_sub .., binary_bufs_sub .., nullary_bufs_sub .., binary_bufs_sub .., nullary_bufs_sub .., binary_bufs_sub .., unary_bufs_sub .., binary_bufs_sub .., binary_bufs_sub .., unary_bufs_sub .., binary_bufs_sub .., nullary_bufs_sub .., unary_bufs_sub .., binary_bufs_sub .., nullary_bufs_sub .., unary_bufs_sub .., binary_bufs_sub ..⟩

/-- From any memory with zero counters every execution ends with the two results at `condition` and `embeddings` of the
    arguments, the arguments as they were and every counter zero. -/
theorem run_main (m : (ℓ : Loc nD τ sig) → Buf (Elt F) ℓ) (ρ : Dev nD → PrngReg) :
    θ_run defs (onTc (τ := τ) (main (F := F))) ⟨m, fun _ => 0, ρ⟩ fun r =>
      (∀ c : Dev nD, (r.2.mem ((c.tc : Thread nD τ).loc main_v38)
            = condition (m ((c.tc : Thread nD τ).loc main_arg0)) (m ((c.tc : Thread nD τ).loc main_arg1))
          ∧ r.2.mem ((c.tc : Thread nD τ).loc main_v49)
            = embeddings (m ((c.tc : Thread nD τ).loc main_arg2)) (m ((c.tc : Thread nD τ).loc main_arg3))
                (m ((c.tc : Thread nD τ).loc main_arg4)) (m ((c.tc : Thread nD τ).loc main_arg5)))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5))
      ∧ r.2.sem = fun _ => 0 :=
  (θ_run defs _ _).mono (fun r h => ⟨fun c => ⟨⟨(h c main_v38).trans (condition_eq _), (h c main_v49).trans (embeddings_eq _)⟩,
      (h c main_arg0).trans (arg_eq _ _ (by decide)), (h c main_arg1).trans (arg_eq _ _ (by decide)),
      (h c main_arg2).trans (arg_eq _ _ (by decide)), (h c main_arg3).trans (arg_eq _ _ (by decide)),
      (h c main_arg4).trans (arg_eq _ _ (by decide)), (h c main_arg5).trans (arg_eq _ _ (by decide))⟩,
      sem_eq_zero_of_no_sems (by decide) _⟩)
    (run_seq scopedRefs_eq scopedSems_eq defs main (fun _ => ops) main_eq (fun _ => ops_sub) m ρ)

end Cert.ReferenceIdeal.Plain

end
-- ==== Proof.Least.lean ====
/- The least value of the first terms of a sequence of extended reals, and the first place it is taken; the sums of products
   of finite numbers that the two programs order differently. -/
module

public import Idealize.ShloMosaic.Lib.Pointwise

@[expose] public section

set_option maxRecDepth 16384

noncomputable section

namespace Cert.Nearest

open Idealize.ShloMosaic

/-- `v` is the least of the first `n` terms of `f`, and `i` is the first place it is taken. -/
structure Least (f : ℕ → EReal) (n : ℕ) (v : EReal) (i : ℕ) : Prop where
  lt : i < n
  eq : f i = v
  le : ∀ k < n, v ≤ f k
  first : ∀ k < i, v < f k

variable {f g : ℕ → EReal} {n : ℕ} {v w : EReal} {i j : ℕ}

/-- The first place is unique. -/
theorem Least.unique (h : Least f n v i) (h' : Least f n w j) : i = j := by
  have e : v = w := le_antisymm (h'.eq ▸ h.le j h'.lt) (h.eq ▸ h'.le i h.lt)
  subst e
  rcases lt_trichotomy i j with hij | hij | hij
  · exact absurd (h'.first i hij) (by rw [h.eq]; exact lt_irrefl _)
  · exact hij
  · exact absurd (h.first j hij) (by rw [h'.eq]; exact lt_irrefl _)

/-- Only the first `n` terms matter. -/
theorem Least.congr (h : Least f n v i) (e : ∀ k < n, f k = g k) : Least g n v i :=
  ⟨h.lt, by rw [← e i h.lt, h.eq], fun k hk => by rw [← e k hk]; exact h.le k hk,
    fun k hk => by rw [← e k (hk.trans h.lt)]; exact h.first k hk⟩

/-- The next terms take over exactly when one of them is strictly less. -/
theorem Least.append {m : ℕ} (h : Least f n v i) (h' : Least (fun k => f (n + k)) m w j) :
    Least f (n + m) (if w < v then w else v) (if w < v then n + j else i) := by
  by_cases hw : w < v
  · simp only [if_pos hw]
    refine ⟨by have := h'.lt; omega, h'.eq, fun k hk => ?_, fun k hk => ?_⟩
    · by_cases hkn : k < n
      · exact hw.le.trans (h.le k hkn)
      · have := h'.le (k - n) (by omega)
        rwa [show n + (k - n) = k by omega] at this
    · by_cases hkn : k < n
      · exact hw.trans_le (h.le k hkn)
      · have := h'.first (k - n) (by omega)
        rwa [show n + (k - n) = k by omega] at this
  · simp only [if_neg hw]
    refine ⟨by have := h.lt; omega, h.eq, fun k hk => ?_, h.first⟩
    by_cases hkn : k < n
    · exact h.le k hkn
    · have := h'.le (k - n) (by omega)
      rw [show n + (k - n) = k by omega] at this
      exact (not_lt.mp hw).trans this

/-- Some term is the least. -/
theorem exists_least (f : ℕ → EReal) (n : ℕ) (hn : 0 < n) : ∃ v i, Least f n v i := by
  classical
  obtain ⟨a, ha, hmin⟩ := (Finset.range n).exists_min_image f ⟨0, Finset.mem_range.mpr hn⟩
  have hex : ∃ k, k < n ∧ f k = f a := ⟨a, Finset.mem_range.mp ha, rfl⟩
  refine ⟨f a, Nat.find hex, (Nat.find_spec hex).1, (Nat.find_spec hex).2, fun k hk => hmin k (Finset.mem_range.mpr hk),
    fun k hk => lt_of_le_of_ne (hmin k (Finset.mem_range.mpr (hk.trans (Nat.find_spec hex).1))) fun e =>
      Nat.find_min hex hk ⟨hk.trans (Nat.find_spec hex).1, e.symm⟩⟩

/-- The fold of the minimum from the top is the least term. -/
theorem Least.fold_min (N : ℕ) (h : Least f N v i) (F : Fin N → EReal) (hF : ∀ l, F l = f l.val) :
    Finset.fold min ⊤ F Finset.univ = v := by
  refine le_antisymm ((Finset.fold_min_le _).mpr (.inr ⟨⟨i, h.lt⟩, Finset.mem_univ _, ?_⟩)) ((Finset.le_fold_min _).mpr ⟨le_top, fun l _ => ?_⟩)
  · rw [hF, h.eq]
  · rw [hF]; exact h.le l.val l.isLt

theorem minsi_toInt (a b : BitVec 32) : (IntOp.minsi a b).toInt = min a.toInt b.toInt := by
  simp only [IntOp.minsi, BitVec.slt, decide_eq_true_eq]
  split_ifs <;> omega

/-- The signed minimum of a family of words is the word that none is below, if it is in the family. -/
theorem fold_minsi_eq (N : ℕ) (b w : BitVec 32) (G : Fin N → BitVec 32) (l : Fin N) (hl : G l = w) (hb : w.toInt ≤ b.toInt)
    (hw : ∀ k, w.toInt ≤ (G k).toInt) : Finset.fold IntOp.minsi b G Finset.univ = w := by
  refine BitVec.eq_of_toInt_eq (le_antisymm ?_ ?_)
  · exact (Finset.fold_op_rel_iff_or (r := fun x y : BitVec 32 => y.toInt ≤ x.toInt) (by intro x y z; rw [minsi_toInt]; exact min_le_iff)).mpr
      (.inr ⟨l, Finset.mem_univ _, by rw [hl]⟩)
  · exact (Finset.fold_op_rel_iff_and (r := fun x y : BitVec 32 => x.toInt ≤ y.toInt) (by intro x y z; rw [minsi_toInt]; exact le_min_iff)).mpr
      ⟨hb, fun k _ => hw k⟩

theorem toInt_ofNat (k : ℕ) (h : k < 2 ^ 31) : (BitVec.ofNat 32 k).toInt = k := by
  have e : (BitVec.ofNat 32 k).toNat = k := by rw [BitVec.toNat_ofNat]; omega
  rw [BitVec.toInt_eq_toNat_of_lt (by rw [e]; omega), e]

/-- The signed minimum, over the places where the least term is taken, of the place: the first such place. -/
theorem Least.fold_minsi (N : ℕ) (hN : N ≤ 16384) (h : Least f N v i) (F : Fin N → EReal) (hF : ∀ l, F l = f l.val) :
    Finset.fold IntOp.minsi (2147483647#32) (fun l : Fin N => if F l = v then BitVec.ofNat 32 l.val else 16384#32) Finset.univ
      = BitVec.ofNat 32 i := by
  have hi := h.lt
  refine fold_minsi_eq N _ _ _ ⟨i, h.lt⟩ (by rw [if_pos (by rw [hF, h.eq])]) ?_ fun k => ?_
  · rw [toInt_ofNat i (by omega)]
    have : (2147483647#32).toInt = 2147483647 := by decide
    omega
  · have hk := k.isLt
    rw [toInt_ofNat i (by omega)]
    split_ifs with hv
    · rw [toInt_ofNat k.val (by omega)]
      have : ¬ k.val < i := fun hki => absurd (h.first k.val hki) (by rw [← hF, hv]; exact lt_irrefl _)
      omega
    · have : (16384#32).toInt = 16384 := by decide
      omega

/-- Two families with the same values have the same minimum -/
theorem fold_min_eq {α β : Type} [Fintype α] [Fintype β] (b : EReal) (F : α → EReal) (G : β → EReal)
    (hF : ∀ x, ∃ y, F x = G y) (hG : ∀ y, ∃ x, G y = F x) :
    Finset.fold min b F Finset.univ = Finset.fold min b G Finset.univ :=
  le_antisymm
    ((Finset.le_fold_min _).mpr ⟨(Finset.fold_min_le _).mpr (.inl le_rfl), fun y _ => by
      obtain ⟨x, hx⟩ := hG y; exact (Finset.fold_min_le _).mpr (.inr ⟨x, Finset.mem_univ _, hx.ge⟩)⟩)
    ((Finset.le_fold_min _).mpr ⟨(Finset.fold_min_le _).mpr (.inl le_rfl), fun x _ => by
      obtain ⟨y, hy⟩ := hF x; exact (Finset.fold_min_le _).mpr (.inr ⟨y, Finset.mem_univ _, hy.ge⟩)⟩)

/-- and the same maximum. -/
theorem fold_max_eq {α β : Type} [Fintype α] [Fintype β] (b : EReal) (F : α → EReal) (G : β → EReal)
    (hF : ∀ x, ∃ y, F x = G y) (hG : ∀ y, ∃ x, G y = F x) :
    Finset.fold max b F Finset.univ = Finset.fold max b G Finset.univ :=
  le_antisymm
    ((Finset.fold_max_le _).mpr ⟨(Finset.le_fold_max _).mpr (.inl le_rfl), fun x _ => by
      obtain ⟨y, hy⟩ := hF x; exact (Finset.le_fold_max _).mpr (.inr ⟨y, Finset.mem_univ _, hy.le⟩)⟩)
    ((Finset.fold_max_le _).mpr ⟨(Finset.le_fold_max _).mpr (.inl le_rfl), fun y _ => by
      obtain ⟨x, hx⟩ := hG y; exact (Finset.le_fold_max _).mpr (.inr ⟨x, Finset.mem_univ _, hx.le⟩)⟩)

/-- The place of a number between the least and the greatest of a family. -/
def scaled {ι : Type} [Fintype ι] (x : EReal) (f : ι → EReal) : EReal :=
  Ideal.div (x - Finset.fold min (Ideal.ofBits .f32 0x7F800000#32) f Finset.univ)
    (Finset.fold max (Ideal.ofBits .f32 0xFF800000#32) f Finset.univ - Finset.fold min (Ideal.ofBits .f32 0x7F800000#32) f Finset.univ)

/-- It depends on the family's values alone. -/
theorem scaled_congr {α β : Type} [Fintype α] [Fintype β] {x y : EReal} {F : α → EReal} {G : β → EReal} (h : x = y)
    (hF : ∀ a, ∃ b, F a = G b) (hG : ∀ b, ∃ a, G b = F a) : scaled x F = scaled y G := by
  unfold scaled
  rw [h, fold_min_eq _ F G hF hG, fold_max_eq _ F G hF hG]

theorem ofBits_top : Ideal.ofBits .f32 0x7F800000#32 = (⊤ : EReal) := by simp [Ideal.ofBits, Ideal.ieee]
theorem ofBits_two : Ideal.ofBits .f32 0x40000000#32 = ((2 : ℝ) : EReal) := by
  simp [Ideal.ofBits, Ideal.ieee, -EReal.coe_mul]; norm_num
theorem ofBits_neg_two : Ideal.ofBits .f32 0xC0000000#32 = ((-2 : ℝ) : EReal) := by
  simp [Ideal.ofBits, Ideal.ieee, -EReal.coe_mul]; norm_num

/-- A number whose absolute value is below the top is finite. -/
theorem finite_of_abs (x : EReal) (h : max x (-x) < ⊤) : ∃ r : ℝ, x = (r : EReal) := by
  induction x with
  | bot => simp at h
  | top => simp at h
  | coe r => exact ⟨r, rfl⟩

theorem coe_sum {ι : Type} (s : Finset ι) (x : ι → ℝ) : ((∑ k ∈ s, x k : ℝ) : EReal) = ∑ k ∈ s, (x k : EReal) := by
  classical
  induction s using Finset.induction_on with
  | empty => simp
  | insert a s ha ih => rw [Finset.sum_insert ha, Finset.sum_insert ha, EReal.coe_add, ih]

/-- Over finite numbers the products of the doubled negatives add up to minus twice the sum of the products. -/
theorem sum_neg_two {N : ℕ} (a b : Fin N → EReal) (ha : ∀ k, ∃ r : ℝ, a k = (r : EReal)) (hb : ∀ k, ∃ r : ℝ, b k = (r : EReal)) (s : EReal) :
    s + ∑ k, a k * Ideal.ofBits .f32 0xC0000000#32 * b k = s - Ideal.ofBits .f32 0x40000000#32 * ∑ k, a k * b k := by
  choose x hx using ha
  choose y hy using hb
  have e1 : ∑ k, a k * Ideal.ofBits .f32 0xC0000000#32 * b k = ((∑ k, x k * (-2) * y k : ℝ) : EReal) := by
    rw [coe_sum]
    exact Finset.sum_congr rfl fun k _ => by rw [hx, hy, ofBits_neg_two]; push_cast; rfl
  have e2 : ∑ k, a k * b k = ((∑ k, x k * y k : ℝ) : EReal) := by
    rw [coe_sum]
    exact Finset.sum_congr rfl fun k _ => by rw [hx, hy]; push_cast; rfl
  rw [e1, e2, ofBits_two, sub_eq_add_neg, ← EReal.coe_mul, ← EReal.coe_neg]
  congr 2
  rw [Finset.mul_sum, ← Finset.sum_neg_distrib]
  exact Finset.sum_congr rfl fun k _ => by ring

end Cert.Nearest

end
-- ==== Proof.KernelIdeal.Slab.lean ====
/- What the first kernel's pieces hold over the extended reals, entry by entry: the distances of a row tile to a codebook tile,
   the least of them with its first place, and the comparison with the best of the earlier tiles. -/
module

public import proofs.«01_k».proof.Proof.KernelIdeal.VqBody
public import proofs.«01_k».proof.Proof.Least

@[expose] public section

set_option maxRecDepth 16384

noncomputable section

namespace Cert.KernelIdeal.Vq

open Cert.KernelIdeal.Gen Cert.Nearest
open Idealize.ShloMosaic

variable (c : Vec Ideal S2048x256 .f32) (zn : Vec Ideal S1152x256 .bf16) (z2 : Vec Ideal S1152x1 .f32) (r : Fin 1152)

theorem pay5_apply (x : Vec Ideal S1152x256 .f32) : k0_pay5 x (ix2 r 0) = ∑ q, x (ix2 r q) * x (ix2 r q) := by
  pointwise [k0_pay5, k0_pay4]

theorem pay6_apply (x : Vec Ideal S1152x256 .f32) (q : Fin 256) : k0_pay6 x (ix2 r q) = x (ix2 r q) * Ideal.ofBits .f32 0xC0000000#32 := by
  pointwise [k0_pay6, k0_pay4]

theorem pay7_apply (l : Fin 2048) : k0_pay7 c zn z2 (ix2 r l)
    = z2 (ix2 r 0) + ∑ q, c (ix2 l q) * c (ix2 l q) + ∑ q, zn (ix2 r q) * c (ix2 l q) := by
  pointwise [k0_pay7, k0_pay4]

theorem pay8_apply : k0_pay8 c zn z2 (ix2 r 0)
    = Finset.fold min (Ideal.ofBits .f32 0x7F800000#32) (fun l : Fin 2048 => k0_pay7 c zn z2 (ix2 r l)) Finset.univ := by
  pointwise [k0_pay8]

theorem pay9_apply (i : grid0.Coords) : k0_pay9 i c zn z2 (ix2 r 0)
    = IntOp.addi (Finset.fold IntOp.minsi 2147483647#32
        (fun l : Fin 2048 => if k0_pay7 c zn z2 (ix2 r l) = k0_pay8 c zn z2 (ix2 r 0) then BitVec.ofNat 32 l.val else 16384#32) Finset.univ)
      (Scalar.muli (BitVec.ofNat 32 (i 1).val) 2048#32) := by
  pointwise [k0_pay9]

theorem pay10_apply : k0_pay10 c zn z2 (ix2 r 0) = k0_pay8 c zn z2 (ix2 r 0) := by
  pointwise [k0_pay10]

theorem pay11_apply (i : grid0.Coords) : k0_pay11 i c zn z2 (ix2 r 0) = k0_pay9 i c zn z2 (ix2 r 0) := by
  pointwise [k0_pay11]

theorem pay13_apply (b b' : Vec Ideal S1152x1 .f32) : k0_pay13 c zn z2 b b' (ix2 r 0)
    = if k0_pay8 c zn z2 (ix2 r 0) < b (ix2 r 0) then k0_pay8 c zn z2 (ix2 r 0) else b' (ix2 r 0) := by
  pointwise [k0_pay13, k0_pay12]

theorem pay14_apply (i : grid0.Coords) (b : Vec Ideal S1152x1 .f32) (b' : Vec Ideal S1152x1 .i32) : k0_pay14 i c zn z2 b b' (ix2 r 0)
    = if k0_pay8 c zn z2 (ix2 r 0) < b (ix2 r 0) then k0_pay9 i c zn z2 (ix2 r 0) else b' (ix2 r 0) := by
  pointwise [k0_pay14, k0_pay12]

theorem pay1_apply (b : Vec Ideal S1152x1 .f32) : k0_pay1 b (ix2 r 0) = b (ix2 r 0) := by
  pointwise [k0_pay1]

theorem pay2_apply (b : Vec Ideal S1152x1 .i32) : k0_pay2 b (ix3 0 r 0) = FloatOps.sitofp .f32 (b (ix2 r 0)) := by
  pointwise [k0_pay2]

/-- A tile's least distance, and the first code of the tile at that distance, counted from the start of the codebook. -/
theorem tile_least (i : grid0.Coords) (f : ℕ → EReal) (hf : ∀ l : Fin 2048, k0_pay7 c zn z2 (ix2 r l) = f l.val) :
    ∃ p, Least f 2048 (k0_pay8 c zn z2 (ix2 r 0)) p ∧ k0_pay9 i c zn z2 (ix2 r 0) = BitVec.ofNat 32 (2048 * (i 1).val + p) := by
  obtain ⟨v, p, h⟩ := exists_least f 2048 (by decide)
  have hv : k0_pay8 c zn z2 (ix2 r 0) = v := by
    rw [pay8_apply, ofBits_top]; exact h.fold_min 2048 _ hf
  refine ⟨p, hv ▸ h, ?_⟩
  rw [pay9_apply, hv, h.fold_minsi 2048 (by decide) _ hf]
  have hi : (i 1).val < 8 := (i 1).isLt
  have hp := h.lt
  refine BitVec.eq_of_toNat_eq ?_
  simp only [IntOp.addi, Scalar.muli, IntOp.muli, BitVec.toNat_add, BitVec.toNat_mul, BitVec.toNat_ofNat]
  omega

end Cert.KernelIdeal.Vq

end
-- ==== Proof.KernelIdeal.Reads.lean ====
/- Where the first kernel's blocks lie: the rows of a point's row tile and of its codebook tile in the two arrays. -/
module

public import proofs.«01_k».proof.Proof.KernelIdeal.Run
public import Idealize.ShloMosaic.Lib.Pipeline.ValueKit

@[expose] public section

set_option maxRecDepth 16384

noncomputable section

namespace Cert.KernelIdeal.Vq

open Cert.KernelIdeal.Gen
open Idealize.ShloMosaic Idealize.ShloMosaic.TcCoe Idealize.ShloMosaic.Tactic

variable (V : (c : Dev nD) → (b : Ref sig .tc) → Buf (Elt Ideal) ((c : Thread nD τ).loc b))

theorem idx0_0 : ∀ t : Fin grid0.N, win0_0.index t = ![t.val / 8, 0] := by decide +kernel
theorem idx0_1 : ∀ t : Fin grid0.N, win0_1.index t = ![0, 0] := by decide +kernel

theorem point_lt (t : Fin cfg0.N) : t.val < 32 := Nat.lt_of_lt_of_eq t.isLt N_0

/-- The row of the flattened array at place `r` of point `t`'s row tile. -/
def rowAt (t : Fin cfg0.N) (r : Fin 1152) : Fin 4608 := ⟨t.val / 8 * 1152 + r.val, by have := point_lt t; omega⟩
/-- The code at place `l` of point `t`'s codebook tile. -/
def codeAt (t : Fin cfg0.N) (l : Fin 2048) : Fin 16384 := ⟨t.val % 8 * 2048 + l.val, by omega⟩

theorem zt_apply (c : Dev nD) (t : Fin cfg0.N) (r : Fin 1152) (q : Fin 256) :
    zt V c t (ix2 r q) = V c main_v0 (ix2 (rowAt t r) q) := by
  unfold zt rowAt
  blk_ext [iblk0, idx0_0 t]

theorem ct_apply (c : Dev nD) (t : Fin cfg0.N) (n : Fin 16384) (q : Fin 256) :
    ct V c t (ix2 n q) = V c main_arg1 (ix2 n q) := by
  unfold ct
  blk_ext [iblk0, idx0_1 t]

theorem coords1_val (t : Fin cfg0.N) : (grid0.coords t 1).val = t.val % 8 := by
  have e1 : (grid0.coords t 1).val = t.val / 1 % 8 := Pipeline.Grid.coords_val t 1 (by decide) rfl
  omega

theorem off1_val (t : Fin cfg0.N) : k0_off1 (grid0.coords t) = ![t.val % 8 * 2048, 0] := by
  have e : (k0_off1 (grid0.coords t)) 0 = t.val % 8 * 2048 := by
    simp only [k0_off1, coords1_val, Matrix.cons_val_zero]
    show (BitVec.ofNat 32 (t.val % 8) * 2048#32).toNat = _
    rw [BitVec.toNat_mul, BitVec.toNat_ofNat, show (2048#32).toNat = 2048 from rfl]
    omega
  funext a
  fin_cases a
  · exact e
  · rfl

theorem tile_apply (t : Fin cfg0.N) (x : Vec Ideal S16384x256 .f32) (l : Fin 2048) (q : Fin 256) :
    tile (grid0.coords t) x (ix2 l q) = x (ix2 (codeAt t l) q) := by
  have e := off1_val t
  refine View.ld_unit_apply_of _ _ _ _ _ _ fun a => ?_
  have ea := congrFun e a
  fin_cases a
  · show _ = k0_off1 (grid0.coords t) 0 + l.val
    rw [show k0_off1 (grid0.coords t) 0 = t.val % 8 * 2048 from ea]; rfl
  · show q.val = k0_off1 (grid0.coords t) 1 + q.val
    rw [show k0_off1 (grid0.coords t) 1 = 0 from ea]; omega

end Cert.KernelIdeal.Vq

end
-- ==== Proof.KernelIdeal.Best.lean ====
/- The state of the first kernel over the extended reals: after each codebook tile, every row's least distance to the codes seen
   so far and the first code at that distance. -/
module

public import proofs.«01_k».proof.Proof.KernelIdeal.Slab
public import proofs.«01_k».proof.Proof.KernelIdeal.Reads

@[expose] public section

set_option maxRecDepth 16384

noncomputable section

namespace Cert.KernelIdeal.Vq

open Cert.KernelIdeal.Gen Cert.Nearest
open Idealize.ShloMosaic Idealize.ShloMosaic.TcCoe

/-- The squared distance of row `g` to code `n` (counted around the codebook's end), as it is plainly written. -/
def key (x : Vec Ideal S4608x256 .f32) (cb : Vec Ideal S16384x256 .f32) (g : Fin 4608) (n : ℕ) : EReal :=
  ∑ q, x (ix2 g q) * x (ix2 g q) + ∑ q, cb (ix2 ⟨n % 16384, by omega⟩ q) * cb (ix2 ⟨n % 16384, by omega⟩ q)
    - Ideal.ofBits .f32 0x40000000#32 * ∑ q, x (ix2 g q) * cb (ix2 ⟨n % 16384, by omega⟩ q)

variable (V : (c : Dev nD) → (b : Ref sig .tc) → Buf (Elt Ideal) ((c : Thread nD τ).loc b))

/-- What the state holds of one row: its squared norm, its entries times minus two, and the best code of the first `n`. -/
structure Holds (x : Vec Ideal S4608x256 .f32) (cb : Vec Ideal S16384x256 .f32) (g : Fin 4608) (n : ℕ) (s : St Ideal) (r : Fin 1152) : Prop where
  z2 : s.z2 (ix2 r 0) = ∑ q, x (ix2 g q) * x (ix2 g q)
  zn : ∀ q, s.zn (ix2 r q) = x (ix2 g q) * Ideal.ofBits .f32 0xC0000000#32
  best : ∃ p, Least (key x cb g) n (s.bv (ix2 r 0)) p ∧ s.bi (ix2 r 0) = BitVec.ofNat 32 p

variable (c : Dev nD) (x : Vec Ideal S4608x256 .f32) (cb : Vec Ideal S16384x256 .f32)
  (hx : V c main_v0 = x) (hcb : V c main_arg1 = cb)
  (fx : ∀ g q, ∃ a : ℝ, x (ix2 g q) = (a : EReal)) (fcb : ∀ n q, ∃ a : ℝ, cb (ix2 n q) = (a : EReal))

include hcb fx fcb in
/-- The distances that a point computes, from a squared norm and doubled negatives that are right. -/
theorem pay7_key (t : Fin cfg0.N) (r : Fin 1152) (zn : Vec Ideal S1152x256 .bf16) (z2 : Vec Ideal S1152x1 .f32) (g : Fin 4608)
    (hz2 : z2 (ix2 r 0) = ∑ q, x (ix2 g q) * x (ix2 g q)) (hzn : ∀ q, zn (ix2 r q) = x (ix2 g q) * Ideal.ofBits .f32 0xC0000000#32)
    (l : Fin 2048) :
    k0_pay7 (tile (grid0.coords t) (ct V c t)) zn z2 (ix2 r l) = key x cb g (2048 * (t.val % 8) + l.val) := by
  have ec : ∀ q, tile (grid0.coords t) (ct V c t) (ix2 l q) = cb (ix2 ⟨(2048 * (t.val % 8) + l.val) % 16384, by omega⟩ q) := fun q => by
    rw [tile_apply, ct_apply, hcb]
    exact congrArg (fun n => cb (ix2 n q)) (Fin.ext (by show t.val % 8 * 2048 + l.val = (2048 * (t.val % 8) + l.val) % 16384; omega))
  rw [pay7_apply, hz2]
  simp only [ec, hzn]
  exact sum_neg_two _ _ (fx g) (fcb _) _

theorem first_bv (t : Fin cfg0.N) : (first V c t).bv = k0_pay10 (tile (grid0.coords t) (ct V c t)) (first V c t).zn (first V c t).z2 := by
  simp only [first]
theorem first_bi (t : Fin cfg0.N) :
    (first V c t).bi = k0_pay11 (grid0.coords t) (tile (grid0.coords t) (ct V c t)) (first V c t).zn (first V c t).z2 := by
  simp only [first]

include hx hcb fx fcb in
/-- The state after every point. -/
theorem holds (n : ℕ) (h : n < cfg0.N) (r : Fin 1152) :
    Holds x cb (rowAt ⟨n, h⟩ r) (2048 * (n % 8) + 2048) (st V c n h) r := by
  induction n using Nat.strong_induction_on with
  | _ n ih =>
  by_cases h0 : n % 8 = 0
  · rw [show st V c n h = first V c ⟨n, h⟩ from st_first V c ⟨n, h⟩ h0]
    have e2 : (first V c ⟨n, h⟩).z2 (ix2 r 0) = ∑ q, x (ix2 (rowAt ⟨n, h⟩ r) q) * x (ix2 (rowAt ⟨n, h⟩ r) q) := by
      show k0_pay5 _ (ix2 r 0) = _
      rw [pay5_apply]
      simp only [zt_apply, hx]
    have en : ∀ q, (first V c ⟨n, h⟩).zn (ix2 r q) = x (ix2 (rowAt ⟨n, h⟩ r) q) * Ideal.ofBits .f32 0xC0000000#32 := fun q => by
      show k0_pay6 _ (ix2 r q) = _
      rw [pay6_apply, zt_apply, hx]
    obtain ⟨p, hp, ep⟩ := tile_least _ _ _ r (grid0.coords ⟨n, h⟩) (fun k => key x cb (rowAt ⟨n, h⟩ r) (2048 * (n % 8) + k))
      (fun l => pay7_key V c x cb hcb fx fcb ⟨n, h⟩ r _ _ _ e2 en l)
    refine ⟨e2, en, p, ?_, ?_⟩
    · have ev : (first V c ⟨n, h⟩).bv (ix2 r 0)
          = k0_pay8 (tile (grid0.coords ⟨n, h⟩) (ct V c ⟨n, h⟩)) (first V c ⟨n, h⟩).zn (first V c ⟨n, h⟩).z2 (ix2 r 0) := by rw [first_bv, pay10_apply]
      have ek : (fun k => key x cb (rowAt ⟨n, h⟩ r) (2048 * (n % 8) + k)) = key x cb (rowAt ⟨n, h⟩ r) :=
        funext fun k => congrArg (key x cb (rowAt ⟨n, h⟩ r)) (by omega)
      rw [ek] at hp
      rw [ev, show 2048 * (n % 8) + 2048 = 2048 by omega]
      exact hp
    · rw [first_bi, pay11_apply]
      refine ep.trans ?_
      rw [coords1_val]
      show BitVec.ofNat 32 (2048 * (n % 8) + p) = _
      rw [h0]; congr 1; omega
  · have hs : st V c n h = next V c ⟨n, h⟩ (st V c (n - 1) (by omega)) := st_next V c ⟨n, h⟩ h0
    have hg : rowAt ⟨n - 1, by omega⟩ r = rowAt ⟨n, h⟩ r := Fin.ext (by show (n - 1) / 8 * 1152 + r.val = n / 8 * 1152 + r.val; omega)
    have hp := ih (n - 1) (by omega) (by omega)
    rw [hg, show 2048 * ((n - 1) % 8) + 2048 = 2048 * (n % 8) by omega] at hp
    rw [hs]
    generalize st V c (n - 1) (by omega) = s at hp
    obtain ⟨p, hb, ei⟩ := hp.best
    obtain ⟨p', hb', ei'⟩ := tile_least _ _ _ r (grid0.coords ⟨n, h⟩) (fun k => key x cb (rowAt ⟨n, h⟩ r) (2048 * (n % 8) + k))
      (fun l => pay7_key V c x cb hcb fx fcb ⟨n, h⟩ r _ _ _ hp.z2 hp.zn l)
    refine ⟨hp.z2, hp.zn, _, ((?_ : Least _ _ _ (if k0_pay8 (tile (grid0.coords ⟨n, h⟩) (ct V c ⟨n, h⟩)) s.zn s.z2 (ix2 r 0) < s.bv (ix2 r 0) then 2048 * (n % 8) + p' else p))), ?_⟩
    · have ev : (next V c ⟨n, h⟩ s).bv (ix2 r 0) = k0_pay13 (tile (grid0.coords ⟨n, h⟩) (ct V c ⟨n, h⟩)) s.zn s.z2 s.bv s.bv (ix2 r 0) := by
        show (if n % 2 = 1 then _ else _ : Vec Ideal S1152x1 .f32) (ix2 r 0) = _
        split_ifs
        · rw [pay1_apply]
        · rfl
      rw [ev, pay13_apply]
      exact hb.append hb'
    · show k0_pay14 _ _ _ _ _ _ (ix2 r 0) = _
      rw [pay14_apply, ei, ei', coords1_val]
      split_ifs <;> rfl

end Cert.KernelIdeal.Vq

end
-- ==== Proof.KernelIdeal.Scaled.lean ====
/- What the first kernel's last point and the second kernel write, over the extended reals, entry by entry. -/
module

public import proofs.«01_k».proof.Proof.KernelIdeal.EmbBody
public import proofs.«01_k».proof.Proof.Least

@[expose] public section

set_option maxRecDepth 16384

noncomputable section

namespace Cert.KernelIdeal.Vq

open Cert.KernelIdeal.Gen Cert.Nearest
open Idealize.ShloMosaic

theorem pay3_apply (b : Vec Ideal S4x1152x1 .f32) (g : Fin 4608) : k0_pay3 b (ix2 g 0)
    = scaled (b (ix3 ⟨g.val / 1152, by omega⟩ ⟨g.val % 1152, by omega⟩ 0))
      fun x : Fin 4608 × Fin 1 => b (ix3 ⟨x.1.val / 1152, by omega⟩ ⟨x.1.val % 1152, by omega⟩ 0) := by
  unfold scaled
  pointwise [k0_pay3]

/-- The greatest of a row of the flattened depth, with one ten-thousandth in the place of zero. -/
def alpha1 (d : Vec Ideal S8x147456 .f32) (j : Fin 8) : EReal :=
  if Finset.fold max (Ideal.ofBits .f32 0xFF800000#32) (fun x : Fin 147456 => d (ix2 j x)) Finset.univ = 0 then Ideal.ofBits .f32 0x38D1B717#32
  else Finset.fold max (Ideal.ofBits .f32 0xFF800000#32) (fun x : Fin 147456 => d (ix2 j x)) Finset.univ

/-- The affine image of a row. -/
def affine1 (d : Vec Ideal S8x147456 .f32) (t : Vec Ideal S8x3 .f32) (W : Vec Ideal S3x598 .f32) (b : Vec Ideal S1x598 .f32)
    (j : Fin 8) (s : Fin 598) : EReal :=
  ∑ x, (t (ix2 j x) * alpha1 d j) * W (ix2 x s) + b (ix2 0 s)

theorem pay1_1_apply (d : Vec Ideal S8x147456 .f32) (t : Vec Ideal S8x3 .f32) (W : Vec Ideal S3x598 .f32) (b : Vec Ideal S1x598 .f32)
    (j : Fin 8) (s : Fin 598) :
    k1_pay1 d t W b (ix2 j s) = scaled (affine1 d t W b j s) fun x : Fin 8 × Fin 598 => affine1 d t W b x.1 x.2 := by
  unfold scaled affine1 alpha1
  pointwise [k1_pay1]

end Cert.KernelIdeal.Vq

end
-- ==== Proof.KernelIdeal.Arrays.lean ====
/- The host's reshapes around the two kernels, and the two result arrays as the kernels leave them. -/
module

public import proofs.«01_k».proof.Proof.KernelIdeal.Reads
public import Idealize.ShloMosaic.Lib.StableHlo.Run
public import Idealize.ShloMosaic.Lib.Pointwise

@[expose] public section

set_option maxRecDepth 16384

noncomputable section

namespace Cert.KernelIdeal.Vq

open Cert.KernelIdeal.Gen
open Idealize.ShloMosaic Idealize.ShloMosaic.TcCoe Idealize.ShloMosaic.Tactic

section Region
variable (V : (c : Dev nD) → (b : Ref sig .tc) → Buf (Elt Ideal) ((c : Thread nD τ).loc b))

/-- The last point of the first kernel's grid, and the one point of the second's. -/
def last0 : Fin cfg0.N := ⟨31, by rw [show cfg0.N = 32 from N_0]; decide⟩
def only1 : Fin cfg1.N := ⟨0, by rw [show cfg1.N = 1 from N_1]; decide⟩

/-- The first kernel leaves the scaled indices. -/
theorem arr0_2 (c : Dev nD) : (dat0 V c).arrAt 2 cfg0.N = k0_pay3 (allOf V c) := by
  refine (dat0 V c).arrAt_eq_of_after_last 2 last0 (by decide +kernel) _ fun j => ?_
  blk_simp
  rw [after0_2]

theorem idx1_0 : ∀ t : Fin grid1.N, win1_0.index t = ![0, 0] := by decide +kernel
theorem idx1_1 : ∀ t : Fin grid1.N, win1_1.index t = ![0, 0] := by decide +kernel
theorem idx1_2 : ∀ t : Fin grid1.N, win1_2.index t = ![0, 0] := by decide +kernel
theorem idx1_3 : ∀ t : Fin grid1.N, win1_3.index t = ![0, 0] := by decide +kernel

/-- Each block of the second kernel is its whole array. -/
theorem iblk1_0 (c : Dev nD) (t : Fin cfg1.N) (j : Fin 8) (x : Fin 147456) : (iblk1 V c 0 t : Vec Ideal S8x147456 .f32) (ix2 j x) = V c main_v2 (ix2 j x) := by
  blk_ext [iblk1, idx1_0 t]
theorem iblk1_1 (c : Dev nD) (t : Fin cfg1.N) (j : Fin 8) (x : Fin 3) : (iblk1 V c 1 t : Vec Ideal S8x3 .f32) (ix2 j x) = V c main_arg3 (ix2 j x) := by
  blk_ext [iblk1, idx1_1 t]
theorem iblk1_2 (c : Dev nD) (t : Fin cfg1.N) (j : Fin 3) (x : Fin 598) : (iblk1 V c 2 t : Vec Ideal S3x598 .f32) (ix2 j x) = V c main_arg4 (ix2 j x) := by
  blk_ext [iblk1, idx1_2 t]
theorem iblk1_3 (c : Dev nD) (t : Fin cfg1.N) (j : Fin 1) (x : Fin 598) : (iblk1 V c 3 t : Vec Ideal S1x598 .f32) (ix2 j x) = V c main_v3 (ix2 j x) := by
  blk_ext [iblk1, idx1_3 t]

/-- The second kernel's payload is all that its buffer holds. -/
theorem out1_4_eq (x0 : Vec Ideal S8x147456 .f32) (x1 : Vec Ideal S8x3 .f32) (x2 : Vec Ideal S3x598 .f32) (x3 : Vec Ideal S1x598 .f32) :
    out1_4 x0 x1 x2 x3 = k1_pay1 x0 x1 x2 x3 := by
  have z : ∀ a : Fin 2, (![0, 0] : Fin 2 → ℕ) a = 0 := by decide
  unfold out1_4
  rw [View.canon_cons_unit_lit _ _ _ z, View.ld_unit_lit _ _ z, View.ld_unit_lit _ _ z, View.ld_unit_lit _ _ z, View.ld_unit_lit _ _ z]

/-- An array over two axes is known by its entries. -/
theorem ext2 {n k : ℕ} {α : Type} (x y : (⟨2, ![n, k]⟩ : Shape).Idx → α) (h : ∀ a b, x (ix2 a b) = y (ix2 a b)) : x = y := by
  funext j
  have e : j = ix2 (j 0) (j 1) := by
    funext a
    fin_cases a <;> rfl
  rw [e]
  exact h _ _

/-- The second kernel leaves its one payload. -/
theorem arr1_4 (c : Dev nD) : (dat1 V c).arrAt 4 cfg1.N
    = k1_pay1 (V c main_v2) (V c main_arg3) (V c main_arg4) (V c main_v3) := by
  refine (dat1 V c).arrAt_eq_of_after_last 4 only1 (by decide +kernel) _ fun j => ?_
  blk_simp
  rw [after1_4]
  rw [out1_4_eq, show iblk1 V c 0 only1 = V c main_v2 from ext2 _ _ (iblk1_0 V c only1), show iblk1 V c 1 only1 = V c main_arg3 from ext2 _ _ (iblk1_1 V c only1),
    show iblk1 V c 2 only1 = V c main_arg4 from ext2 _ _ (iblk1_2 V c only1), show iblk1 V c 3 only1 = V c main_v3 from ext2 _ _ (iblk1_3 V c only1)]
end Region

variable (m : (ℓ : Loc nD τ sig) → Buf (Elt Ideal) ℓ) (ρ : Dev nD → PrngReg) (c : Dev nD)

theorem rows_apply (x : Vec Ideal S8x576x256 .f32) (g : Fin 4608) (q : Fin 256) :
    shapeCast S4608x256 x shapeCasts_S8x576x256_S4608x256 (ix2 g q) = x (ix3 ⟨g.val / 576, by omega⟩ ⟨g.val % 576, by omega⟩ q) := by
  pointwise

/-- The flattened rows. -/
theorem W1_v0 (g : Fin 4608) (q : Fin 256) : W1 m ρ c (Proc.devRef .tc main_v0) (ix2 g q)
    = m ((c : Thread nD τ).loc main_arg0) (ix3 ⟨g.val / 576, by omega⟩ ⟨g.val % 576, by omega⟩ q) := by
  have e : W1 m ρ c (Proc.devRef .tc main_v0) = shapeCast S4608x256 (m ((c : Thread nD τ).loc main_arg0)) shapeCasts_S8x576x256_S4608x256 := by
    unfold W1
    after_results_simp
    rfl
  rw [e]
  exact rows_apply _ g q

theorem W3_v2 (j : Fin 8) (x : Fin 147456) : W3 m ρ c (Proc.devRef .tc main_v2) (ix2 j x)
    = m ((c : Thread nD τ).loc main_arg2) (ix3 j ⟨x.val / 384, by omega⟩ ⟨x.val % 384, by omega⟩) := by
  have e : W3 m ρ c (Proc.devRef .tc main_v2) = shapeCast S8x147456 (W2 m ρ c (Proc.devRef .tc main_arg2)) shapeCasts_S8x384x384_S8x147456 := by
    unfold W3
    after_results_simp
    rfl
  rw [e, W2_args m ρ c main_arg2 (by decide)]
  generalize m ((c : Thread nD τ).loc main_arg2) = x
  revert x
  intro (x : Vec Ideal S8x384x384 .f32)
  pointwise

theorem W3_v3 (s : Fin 598) : W3 m ρ c (Proc.devRef .tc main_v3) (ix2 0 s) = m ((c : Thread nD τ).loc main_arg5) (ix1 s) := by
  have e : W3 m ρ c (Proc.devRef .tc main_v3) = shapeCast S1x598 (W2 m ρ c (Proc.devRef .tc main_arg5)) shapeCasts_S598_S1x598 := by
    unfold W3
    after_results_simp
    rfl
  rw [e, W2_args m ρ c main_arg5 (by decide)]
  generalize m ((c : Thread nD τ).loc main_arg5) = x
  revert x
  intro (x : Vec Ideal S598 .f32)
  pointwise

/-- The first result, off the first kernel's array. -/
theorem W5_v6 (b : Fin 8) (s : Fin 576) : W5 m ρ c (Proc.devRef .tc main_v6) (ix3 b 0 s)
    = k0_pay3 (allOf (V1 m ρ) c) (ix2 (⟨b.val * 576 + s.val, by omega⟩ : Fin 4608) 0) := by
  have e : W5 m ρ c (Proc.devRef .tc main_v6) = broadcastInDim S8x1x576 ![0, 2] bcast_S8x576_S8x1x576_0_2
      (shapeCast S8x576 (W4 m ρ c (Proc.devRef .tc main_v1)) shapeCasts_S4608x1_S8x576) := by
    unfold W5
    after_results_simp
    rfl
  have e1 : W4 m ρ c (Proc.devRef .tc main_v1) = k0_pay3 (allOf (V1 m ρ) c) :=
    (W4_of_ne m ρ c main_v1 (by decide)).trans ((W3_of m ρ c main_v1 (by decide)).trans ((W2_arr m ρ c 2).trans (arr0_2 (V1 m ρ) c)))
  rw [e, e1]
  generalize k0_pay3 (allOf (V1 m ρ) c) = x
  revert x
  intro (x : Vec Ideal S4608x1 .f32)
  pointwise

theorem beside_apply (x : Vec Ideal S8x598 .f32) (j : Fin 8) (s : Fin 598) :
    broadcastInDim S8x1x598 ![0, 2] bcast_S8x598_S8x1x598_0_2 x (ix3 j 0 s) = x (ix2 j s) := by
  pointwise

/-- The second result, off the second kernel's array. -/
theorem W5_v7 (j : Fin 8) (s : Fin 598) : W5 m ρ c (Proc.devRef .tc main_v7) (ix3 j 0 s)
    = k1_pay1 (W3 m ρ c (Proc.devRef .tc main_v2)) (m ((c : Thread nD τ).loc main_arg3)) (m ((c : Thread nD τ).loc main_arg4))
        (W3 m ρ c (Proc.devRef .tc main_v3)) (ix2 j s) := by
  have e : W5 m ρ c (Proc.devRef .tc main_v7) = broadcastInDim S8x1x598 ![0, 2] bcast_S8x598_S8x1x598_0_2
      (W4 m ρ c (Proc.devRef .tc main_v4)) := by
    unfold W5
    after_results_simp
  have e1 := (W4_arr m ρ c 4).trans (arr1_4 (V3 m ρ) c)
  rw [show V3 m ρ c main_arg3 = m ((c : Thread nD τ).loc main_arg3) from W3_args m ρ c main_arg3 (by decide),
    show V3 m ρ c main_arg4 = m ((c : Thread nD τ).loc main_arg4) from W3_args m ρ c main_arg4 (by decide)] at e1
  rw [e, show W4 m ρ c (Proc.devRef .tc main_v4) = _ from e1]
  exact beside_apply _ j s

end Cert.KernelIdeal.Vq

end
-- ==== Proof.RefNearest.lean ====
/- The plain program's arg-min over the extended reals: the first code at the least distance. -/
module

public import proofs.«01_k».proof.Proof.RefRun
public import proofs.«01_k».proof.Proof.Least

@[expose] public section

set_option maxRecDepth 16384

noncomputable section

namespace Cert.ReferenceIdeal.Plain

open Cert.ReferenceIdeal.Gen Cert.Nearest
open Idealize.ShloMosaic

/-- One step of the reduction keeps the less value, on a tie the earlier place. -/
theorem reducer_apply (v w : EReal) (p k : ℕ) (hp : p < 2 ^ 31) (hk : k < 2 ^ 31) :
    reducer_argmin_f32_i32 (F := Ideal) (v, BitVec.ofNat 32 p) (w, BitVec.ofNat 32 k)
      = if v < w ∨ (v = w ∧ p < k) then (v, BitVec.ofNat 32 p) else (w, BitVec.ofNat 32 k) := by
  have hs : (BitVec.ofNat 32 p).slt (BitVec.ofNat 32 k) = decide (p < k) := by
    rw [BitVec.slt, toInt_ofNat p hp, toInt_ofNat k hk]; simp
  simp only [reducer_argmin_f32_i32, Ideal.cmpf_def, Ideal.cmp, IntOp.cmpi, hs]
  rcases lt_trichotomy v w with h | h | h
  · simp [h, h.ne, IntOp.ori, IntOp.andi, Scalar.select]
  · subst h
    by_cases hpk : p < k <;> simp [hpk, IntOp.ori, IntOp.andi, Scalar.select]
  · simp [h.not_gt, h.ne', IntOp.ori, IntOp.andi, Scalar.select]

/-- The fold over a list of places, in any order: the least value met, with the first place at which it is taken. -/
theorem foldl_reducer (f : ℕ → EReal) (L : List ℕ) (hL : ∀ k ∈ L, k < 2 ^ 31) (v : EReal) (p : ℕ) (hp : p < 2 ^ 31) :
    ∃ w q, (L.map fun k => (f k, BitVec.ofNat 32 k)).foldl (reducer_argmin_f32_i32 (F := Ideal)) (v, BitVec.ofNat 32 p) = (w, BitVec.ofNat 32 q)
      ∧ ((q ∈ L ∧ f q = w) ∨ (w = v ∧ q = p)) ∧ w ≤ v ∧ (∀ k ∈ L, w ≤ f k) ∧ (∀ k ∈ L, f k = w → q ≤ k) ∧ (v = w → q ≤ p) := by
  induction L generalizing v p with
  | nil => exact ⟨v, p, rfl, .inr ⟨rfl, rfl⟩, le_rfl, by simp, by simp, fun _ => le_rfl⟩
  | cons k L ih =>
    have hk := hL k (by simp)
    have hL' : ∀ k ∈ L, k < 2 ^ 31 := fun a ha => hL a (by simp [ha])
    rw [List.map_cons, List.foldl_cons, reducer_apply v (f k) p k hp hk]
    split_ifs with h
    · obtain ⟨w, q, e, hq, hv, hle, hfi, hfv⟩ := ih hL' v p hp
      have hvk : v ≤ f k := h.elim le_of_lt fun h => h.1.le
      refine ⟨w, q, e, hq.imp (fun h => ⟨by simp [h.1], h.2⟩) id, hv, ?_, ?_, hfv⟩
      · intro a ha
        rcases List.mem_cons.mp ha with rfl | ha
        · exact hv.trans hvk
        · exact hle a ha
      · intro a ha ea
        rcases List.mem_cons.mp ha with rfl | ha
        · have e1 : v = w := le_antisymm (hvk.trans ea.le) hv
          rcases h with h | h
          · exact absurd (h.trans_le ea.le) (not_lt.mpr hv)
          · exact (hfv e1).trans h.2.le
        · exact hfi a ha ea
    · obtain ⟨w, q, e, hq, hv, hle, hfi, hfv⟩ := ih hL' (f k) k hk
      have hkv : f k ≤ v := not_lt.mp fun h' => h (.inl h')
      refine ⟨w, q, e, ?_, hv.trans hkv, ?_, ?_, ?_⟩
      · rcases hq with hq | hq
        · exact .inl ⟨by simp [hq.1], hq.2⟩
        · exact .inl ⟨by simp [hq.2], by rw [hq.2, hq.1]⟩
      · intro a ha
        rcases List.mem_cons.mp ha with rfl | ha
        · exact hv
        · exact hle a ha
      · intro a ha ea
        rcases List.mem_cons.mp ha with rfl | ha
        · exact hfv ea
        · exact hfi a ha ea
      · intro ev
        have e1 : f k = v := le_antisymm hkv (ev.le.trans hv)
        have h2 : ¬ p < k := fun h' => h (.inr ⟨e1.symm, h'⟩)
        exact (hfv (e1.trans ev)).trans (not_lt.mp h2)

/-- A reduction whose entries carry their places finds the first place of the least value. -/
theorem reduce_least {s t u : Shape} {axes : List (Fin s.rank)} (h : s.ReducesTo axes t) (hu : 0 < u.numel) (x : FVec Ideal s .f32)
    (y : s.Idx → BitVec 32) (ix : FVec Ideal u .f32) (iy : u.Idx → BitVec 32) (hx : ∀ a, ix a = ⊤) (hy : ∀ a, iy a = BitVec.ofNat 32 0)
    (j : t.Idx) (pos : s.Idx → ℕ) (f : ℕ → EReal) (N : ℕ) (hN : N < 2 ^ 31) (hN0 : 0 < N) (hf : ∀ i, h.drop i = j → x i = f (pos i))
    (hp : ∀ i, y i = BitVec.ofNat 32 (pos i)) (hlt : ∀ i, pos i < N) (hex : ∀ k < N, ∃ i, h.drop i = j ∧ pos i = k) :
    ∃ v p, Least f N v p ∧ (Host.argReduce (F := Ideal) (φ := .f32) reducer_argmin_f32_i32 x y ix iy h hu j).2 = BitVec.ofNat 32 p := by
  obtain ⟨L, hL⟩ : ∃ L, L = ((List.finRange s.numel).filter fun n => h.drop (s.rowMajor.symm n) = j) := ⟨_, rfl⟩
  have hfib : Host.argReduceFiber x y h j = (L.map fun n => pos (s.rowMajor.symm n)).map fun k => (f k, BitVec.ofNat 32 k) := by
    rw [Host.argReduceFiber, List.map_map, ← hL]
    refine List.map_congr_left fun n hn => ?_
    rw [hL, List.mem_filter] at hn
    exact Prod.ext (hf _ (of_decide_eq_true hn.2)) (hp _)
  have hmem : ∀ k, k ∈ (L.map fun n => pos (s.rowMajor.symm n)) ↔ k < N := by
    intro k
    rw [List.mem_map]
    constructor
    · rintro ⟨n, -, rfl⟩
      exact hlt _
    · intro hk
      obtain ⟨i, hi, rfl⟩ := hex k hk
      refine ⟨s.rowMajor i, ?_, by rw [Equiv.symm_apply_apply]⟩
      rw [hL, List.mem_filter, Equiv.symm_apply_apply]
      exact ⟨List.mem_finRange _, decide_eq_true hi⟩
  have hc : (Host.argReduce (F := Ideal) (φ := .f32) reducer_argmin_f32_i32 x y ix iy h hu j)
      = (Host.argReduceFiber x y h j).foldl (reducer_argmin_f32_i32 (F := Ideal)) (⊤, BitVec.ofNat 32 0) := by
    rw [Ideal.argReduce_eq_reduce2, Host.reduce2_eq_foldl_fiber, hx, hy]
  rw [hfib] at hc
  obtain ⟨w, q, e, hq, hv, hle, hfi, -⟩ := foldl_reducer f _ (fun k hk => ((hmem k).mp hk).trans hN) ⊤ 0 (by decide)
  rw [e] at hc
  have hq' : q < N := by
    rcases hq with hq | hq
    · exact (hmem q).mp hq.1
    · omega
  refine ⟨w, q, ⟨hq', ?_, fun k hk => hle k ((hmem k).mpr hk), fun k hk => ?_⟩, by rw [hc]⟩
  · rcases hq with hq | hq
    · exact hq.2
    · rw [hq.1, hq.2]
      have := hle 0 ((hmem 0).mpr hN0)
      rw [hq.1] at this
      exact top_le_iff.mp this
  · have hk' := (hmem k).mpr (hk.trans hq')
    exact lt_of_le_of_ne (hle k hk') fun e' => absurd (hfi k hk' e'.symm) (not_le.mpr hk)

/-- An entry lies in row `(b, s)` exactly when its first two coordinates say so. -/
theorem drop_iff (b : Fin 8) (s : Fin 576) (i : S8x576x16384.Idx) :
    reducesTo_S8x576x16384_S8x576_d2.drop i = ix2 b s ↔ i = ix3 b s (i 2) := by
  have d0 := reducesTo_S8x576x16384_S8x576_d2.drop_apply_val_of_eq i 0 0
  have d1 := reducesTo_S8x576x16384_S8x576_d2.drop_apply_val_of_eq i 1 1
  constructor
  · intro h
    rw [h] at d0 d1
    funext a
    fin_cases a
    · exact Fin.ext d0.symm
    · exact Fin.ext d1.symm
    · rfl
  · intro h
    have h0 : (i 0).val = b.val := by rw [h]; rfl
    have h1 : (i 1).val = s.val := by rw [h]; rfl
    funext a
    fin_cases a
    · exact Fin.ext (d0.trans h0)
    · exact Fin.ext (d1.trans h1)

/-- The arg-min at an index. -/
theorem codes_eq (d : Vec Ideal S8x576x16384 .f32) : codes d = fun j =>
    (Host.argReduce (F := Ideal) (φ := .f32) reducer_argmin_f32_i32 d (iotaInDim S8x576x16384 32 2) (constant S_ .f32 0x7F800000#32) (constantI S_ 32 0#32)
      reducesTo_S8x576x16384_S8x576_d2 h_S_ j).2 := by
  with_reducible delta codes
  rfl

/-- The index of a row's nearest code. -/
theorem codes_least (d : Vec Ideal S8x576x16384 .f32) (b : Fin 8) (s : Fin 576) (f : ℕ → EReal)
    (hf : ∀ n : Fin 16384, d (ix3 b s n) = f n.val) :
    ∃ v p, Least f 16384 v p ∧ codes d (ix2 b s) = BitVec.ofNat 32 p := by
  obtain ⟨v, p, h, e⟩ := reduce_least reducesTo_S8x576x16384_S8x576_d2 h_S_ d (iotaInDim S8x576x16384 32 2)
    (constant S_ .f32 0x7F800000#32) (constantI S_ 32 0#32) (fun _ => ofBits_top) (fun _ => rfl)
    (ix2 b s) (fun i => (i 2).val) f 16384 (by norm_num) (by norm_num)
    (fun i hi => (congrArg d ((drop_iff b s i).mp hi)).trans (hf (i 2))) (fun _ => rfl) (fun i => (i 2).isLt)
    (fun k hk => ⟨ix3 b s ⟨k, hk⟩, (drop_iff b s _).mpr rfl, rfl⟩)
  refine ⟨v, p, h, ?_⟩
  rw [codes_eq]
  exact e

end Cert.ReferenceIdeal.Plain

end
-- ==== Proof.RefValue.lean ====
/- The plain program over the extended reals, entry by entry. -/
module

public import proofs.«01_k».proof.Proof.RefNearest

@[expose] public section

set_option maxRecDepth 16384

noncomputable section

namespace Cert.ReferenceIdeal.Plain

open Cert.ReferenceIdeal.Gen Cert.Nearest
open Idealize.ShloMosaic

theorem dist_apply (z : Vec Ideal S8x576x256 .f32) (cb : Vec Ideal S16384x256 .f32) (b : Fin 8) (s : Fin 576) (n : Fin 16384) :
    dist z cb (ix3 b s n) = ∑ q, z (ix3 b s q) * z (ix3 b s q) + ∑ q, cb (ix2 n q) * cb (ix2 n q)
      - Ideal.ofBits .f32 0x40000000#32 * ∑ q, z (ix3 b s q) * cb (ix2 n q) := by
  pointwise [dist]

theorem asFloat_apply (x : Vec Ideal S8x576 .i32) (b : Fin 8) (s : Fin 576) :
    asFloat x (ix3 b 0 s) = FloatOps.sitofp (F := Ideal) .f32 (x (ix2 b s)) := by
  pointwise [asFloat]

theorem scale576_apply (x : Vec Ideal S8x1x576 .f32) (b : Fin 8) (s : Fin 576) :
    scale576 x (ix3 b 0 s) = scaled (x (ix3 b 0 s)) fun k : Fin 8 × Fin 1 × Fin 576 => x (ix3 k.1 k.2.1 k.2.2) := by
  unfold scaled
  pointwise [scale576]

theorem scale598_apply (x : Vec Ideal S8x1x598 .f32) (b : Fin 8) (s : Fin 598) :
    scale598 x (ix3 b 0 s) = scaled (x (ix3 b 0 s)) fun k : Fin 8 × Fin 1 × Fin 598 => x (ix3 k.1 k.2.1 k.2.2) := by
  unfold scaled
  pointwise [scale598]

theorem top_apply (d : Vec Ideal S8x384x384 .f32) (j : Fin 8) : top d (ix1 j)
    = Finset.fold max (Ideal.ofBits .f32 0xFF800000#32) (fun k : Fin 384 × Fin 384 => d (ix3 j k.1 k.2)) Finset.univ := by
  pointwise [top]

theorem alpha_apply (d : Vec Ideal S8x384x384 .f32) (j : Fin 8) :
    alpha d (ix1 j) = if top d (ix1 j) = 0 then Ideal.ofBits .f32 0x38D1B717#32 else top d (ix1 j) := by
  unfold alpha
  generalize top d = a
  pointwise

theorem affine_apply (d : Vec Ideal S8x384x384 .f32) (t : Vec Ideal S8x3 .f32) (W : Vec Ideal S3x598 .f32) (b : Vec Ideal S598 .f32)
    (j : Fin 8) (s : Fin 598) : affine d t W b (ix2 j s) = ∑ x, (t (ix2 j x) * alpha d (ix1 j)) * W (ix2 x s) + b (ix1 s) := by
  unfold affine
  generalize alpha d = a
  pointwise

theorem beside_apply (x : Vec Ideal S8x598 .f32) (j : Fin 8) (s : Fin 598) :
    broadcastInDim S8x1x598 ![0, 2] bcast_S8x598_S8x1x598_0_2 x (ix3 j 0 s) = x (ix2 j s) := by
  pointwise

/-- The first result at an index. -/
theorem condition_apply (z : Vec Ideal S8x576x256 .f32) (cb : Vec Ideal S16384x256 .f32) (b : Fin 8) (s : Fin 576) :
    condition z cb (ix3 b 0 s) = scaled (FloatOps.sitofp (F := Ideal) .f32 (codes (dist z cb) (ix2 b s)))
      fun k : Fin 8 × Fin 576 => FloatOps.sitofp (F := Ideal) .f32 (codes (dist z cb) (ix2 k.1 k.2)) := by
  unfold condition
  generalize codes (dist z cb) = i
  rw [scale576_apply]
  refine scaled_congr (asFloat_apply i b s) (fun k => ⟨(k.1, k.2.2), ?_⟩) (fun k => ⟨(k.1, 0, k.2), (asFloat_apply i k.1 k.2).symm⟩)
  rw [Subsingleton.elim k.2.1 0]
  exact asFloat_apply i k.1 k.2.2

/-- The second result at an index. -/
theorem embeddings_apply (d : Vec Ideal S8x384x384 .f32) (t : Vec Ideal S8x3 .f32) (W : Vec Ideal S3x598 .f32) (b : Vec Ideal S598 .f32)
    (j : Fin 8) (s : Fin 598) :
    embeddings d t W b (ix3 j 0 s) = scaled (affine d t W b (ix2 j s)) fun k : Fin 8 × Fin 598 => affine d t W b (ix2 k.1 k.2) := by
  unfold embeddings
  generalize affine d t W b = x
  rw [scale598_apply]
  refine scaled_congr (beside_apply x j s) (fun k => ⟨(k.1, k.2.2), ?_⟩) (fun k => ⟨(k.1, 0, k.2), (beside_apply x k.1 k.2).symm⟩)
  rw [Subsingleton.elim k.2.1 0]
  exact beside_apply x k.1 k.2.2

end Cert.ReferenceIdeal.Plain

end
-- ==== Proof.Agree.lean ====
/- The kernel's two result arrays are the plain program's, on finite rows and a finite codebook. -/
module

public import proofs.«01_k».proof.Proof.KernelIdeal.Best
public import proofs.«01_k».proof.Proof.KernelIdeal.Scaled
public import proofs.«01_k».proof.Proof.KernelIdeal.Arrays
public import proofs.«01_k».proof.Proof.RefValue

@[expose] public section

set_option maxRecDepth 16384

noncomputable section

namespace Cert.Agree

open Cert.Nearest Cert.KernelIdeal Cert.KernelIdeal.Vq
open Cert.ReferenceIdeal.Plain (dist codes condition embeddings affine alpha top dist_apply codes_least condition_apply embeddings_apply affine_apply alpha_apply top_apply)
open Idealize.ShloMosaic Idealize.ShloMosaic.TcCoe

/-- An array over 8 x 1 x n is known by its entries. -/
theorem ext3 {n : ℕ} {α : Type} (x y : (⟨3, ![8, 1, n]⟩ : Shape).Idx → α) (h : ∀ a b, x (ix3 a 0 b) = y (ix3 a 0 b)) : x = y := by
  funext j
  have e : j = ix3 (j 0) 0 (j 2) := by
    funext a
    fin_cases a
    · rfl
    · exact Subsingleton.elim (α := Fin 1) _ _
    · rfl
  rw [e]
  exact h _ _

section Rows
variable (V : (c : Dev nD) → (b : Ref sig .tc) → Buf (Elt Ideal) ((c : Thread nD τ).loc b)) (c : Dev nD)

/-- An entry of the index array is the index that its row tile ends with. -/
theorem allOf_apply (a : Fin 4) (r : Fin 1152) (h : 8 * a.val + 7 < cfg0.N) :
    allOf V c (ix3 a r 0) = FloatOps.sitofp (F := Ideal) .f32 ((st V c (8 * a.val + 7) h).bi (ix2 r 0)) := by
  have e : cell (ix3 a r 0) = ix3 0 r 0 := by
    funext b
    fin_cases b <;> rfl
  unfold allOf
  rw [e]
  exact pay2_apply r _

variable (z : Vec Ideal S8x576x256 .f32) (cb : Vec Ideal S16384x256 .f32)
  (hx : ∀ (g : Fin 4608) (q : Fin 256), V c main_v0 (ix2 g q) = z (ix3 ⟨g.val / 576, by omega⟩ ⟨g.val % 576, by omega⟩ q))
  (hcb : V c main_arg1 = cb)
  (fz : ∀ b s q, ∃ a : ℝ, z (ix3 b s q) = (a : EReal)) (fcb : ∀ n q, ∃ a : ℝ, cb (ix2 n q) = (a : EReal))

include hx hcb fz fcb in
/-- Every row's entry of the index array is the plain program's arg-min of that row. -/
theorem allOf_codes (g : Fin 4608) :
    allOf V c (ix3 ⟨g.val / 1152, by omega⟩ ⟨g.val % 1152, by omega⟩ 0)
      = FloatOps.sitofp (F := Ideal) .f32 (codes (dist z cb) (ix2 ⟨g.val / 576, by omega⟩ ⟨g.val % 576, by omega⟩)) := by
  have hN : cfg0.N = 32 := Gen.N_0
  have hlt : 8 * (g.val / 1152) + 7 < cfg0.N := by omega
  have hg : rowAt ⟨8 * (g.val / 1152) + 7, hlt⟩ ⟨g.val % 1152, by omega⟩ = g :=
    Fin.ext (by show (8 * (g.val / 1152) + 7) / 8 * 1152 + g.val % 1152 = g.val; omega)
  have hh := holds V c (V c main_v0) cb rfl hcb (fun g q => by rw [hx]; exact fz _ _ _) fcb _ hlt ⟨g.val % 1152, by omega⟩
  rw [hg, show 2048 * ((8 * (g.val / 1152) + 7) % 8) + 2048 = 16384 by omega] at hh
  obtain ⟨p, hp, ep⟩ := hh.best
  obtain ⟨v, p', hp', ep'⟩ := codes_least (dist z cb) ⟨g.val / 576, by omega⟩ ⟨g.val % 576, by omega⟩ (key (V c main_v0) cb g) (fun n => by
    rw [dist_apply]
    unfold key
    simp only [hx]
    have en : (⟨n.val % 16384, by omega⟩ : Fin 16384) = n := Fin.ext (Nat.mod_eq_of_lt n.isLt)
    rw [en])
  rw [allOf_apply V c _ _ hlt, ep, ep', hp.unique hp']

end Rows

variable (m : (ℓ : Loc nD τ sig) → Buf (Elt Ideal) ℓ) (ρ : Dev nD → PrngReg) (c : Dev nD)

/-- The first result. -/
theorem condition_agrees (z : Vec Ideal S8x576x256 .f32) (cb : Vec Ideal S16384x256 .f32)
    (hz : m ((c : Thread nD τ).loc main_arg0) = z) (hcb : m ((c : Thread nD τ).loc main_arg1) = cb)
    (fz : ∀ b s q, ∃ a : ℝ, z (ix3 b s q) = (a : EReal)) (fcb : ∀ n q, ∃ a : ℝ, cb (ix2 n q) = (a : EReal)) :
    W5 m ρ c (Proc.devRef .tc main_v6) = condition z cb := by
  have ha := allOf_codes (V1 m ρ) c z cb (fun g q => (W1_v0 m ρ c g q).trans (by rw [hz]))
    ((W1_args m ρ c main_arg1 (by decide)).trans hcb) fz fcb
  refine ext3 _ _ fun b s => ?_
  rw [W5_v6, condition_apply, pay3_apply]
  have hb : ∀ (b : Fin 8) (s : Fin 576), (⟨(b.val * 576 + s.val) / 576, by omega⟩ : Fin 8) = b ∧ (⟨(b.val * 576 + s.val) % 576, by omega⟩ : Fin 576) = s :=
    fun b s => ⟨Fin.ext (by show (b.val * 576 + s.val) / 576 = b.val; omega), Fin.ext (by show (b.val * 576 + s.val) % 576 = s.val; omega)⟩
  have hrow : ∀ (b : Fin 8) (s : Fin 576) (h : b.val * 576 + s.val < 4608), allOf (V1 m ρ) c (ix3 ⟨(b.val * 576 + s.val) / 1152, by omega⟩ ⟨(b.val * 576 + s.val) % 1152, by omega⟩ 0)
      = FloatOps.sitofp (F := Ideal) .f32 (codes (dist z cb) (ix2 b s)) := fun b s h => by
    have := ha ⟨b.val * 576 + s.val, h⟩
    rw [(hb b s).1, (hb b s).2] at this
    exact this
  refine scaled_congr (hrow b s (by omega)) (fun x => ⟨(⟨x.1.val / 576, by omega⟩, ⟨x.1.val % 576, by omega⟩), ha x.1⟩)
    (fun k => ⟨(⟨k.1.val * 576 + k.2.val, by omega⟩, 0), (hrow k.1 k.2 (by omega)).symm⟩)

/-- The two affine images are the same. -/
theorem affine_agrees (d1 : Vec Ideal S8x147456 .f32) (b1 : Vec Ideal S1x598 .f32) (d : Vec Ideal S8x384x384 .f32) (t : Vec Ideal S8x3 .f32)
    (W : Vec Ideal S3x598 .f32) (b : Vec Ideal S598 .f32)
    (hd : ∀ (j : Fin 8) (x : Fin 147456), d1 (ix2 j x) = d (ix3 j ⟨x.val / 384, by omega⟩ ⟨x.val % 384, by omega⟩))
    (hb : ∀ s : Fin 598, b1 (ix2 0 s) = b (ix1 s)) (j : Fin 8) (s : Fin 598) :
    affine1 d1 t W b1 j s = affine d t W b (ix2 j s) := by
  have ht : Finset.fold max (Ideal.ofBits .f32 0xFF800000#32) (fun x : Fin 147456 => d1 (ix2 j x)) Finset.univ = top d (ix1 j) := by
    rw [top_apply]
    refine fold_max_eq _ _ _ (fun x => ⟨(⟨x.val / 384, by omega⟩, ⟨x.val % 384, by omega⟩), hd j x⟩) fun k => ⟨⟨k.1.val * 384 + k.2.val, by omega⟩, ?_⟩
    rw [hd]
    congr 2
    · exact Fin.ext (by show k.1.val = (k.1.val * 384 + k.2.val) / 384; omega)
    · exact Fin.ext (by show k.2.val = (k.1.val * 384 + k.2.val) % 384; omega)
  rw [affine_apply, alpha_apply]
  unfold affine1 alpha1
  rw [ht, hb]

/-- The second result. -/
theorem embeddings_agrees (d : Vec Ideal S8x384x384 .f32) (t : Vec Ideal S8x3 .f32) (W : Vec Ideal S3x598 .f32) (b : Vec Ideal S598 .f32)
    (hd : m ((c : Thread nD τ).loc main_arg2) = d) (ht : m ((c : Thread nD τ).loc main_arg3) = t)
    (hW : m ((c : Thread nD τ).loc main_arg4) = W) (hb : m ((c : Thread nD τ).loc main_arg5) = b) :
    W5 m ρ c (Proc.devRef .tc main_v7) = embeddings d t W b := by
  have ha := affine_agrees (W3 m ρ c (Proc.devRef .tc main_v2)) (W3 m ρ c (Proc.devRef .tc main_v3)) d t W b
    (fun j x => (W3_v2 m ρ c j x).trans (by rw [hd])) (fun s => (W3_v3 m ρ c s).trans (by rw [hb]))
  refine ext3 _ _ fun j s => ?_
  rw [W5_v7, embeddings_apply, ht, hW, pay1_1_apply]
  exact scaled_congr (ha j s) (fun k => ⟨k, ha k.1 k.2⟩) (fun k => ⟨k, (ha k.1 k.2).symm⟩)

end Cert.Agree

end
-- ==== Proof.Finite.lean ====
/- The precondition read: every row entry and every codebook entry is a real number. -/
module

public import proofs.«01_k».proof.Pre_finite
public import proofs.«01_k».proof.Proof.Least
public import Idealize.ShloMosaic.Lib.ReduceAll
public import Idealize.ShloMosaic.Lib.Affine
public import Idealize.ShloMosaic.PureOps.Ideal.Laws

@[expose] public section

set_option maxRecDepth 16384

noncomputable section

namespace Cert.Pre_finite

open Idealize.ShloMosaic Cert.Nearest

variable [hF : Facts]

/-- One comparison that holds: the entry is finite. -/
theorem finite_of_cmp (x : EReal) (h : FloatOps.cmpf (F := Ideal) (φ := .f32) .olt (FloatOps.absf (F := Ideal) (φ := .f32) x) (Ideal.ofBits .f32 0x7F800000#32) = 1#1) :
    ∃ r : ℝ, x = (r : EReal) := by
  rw [Ideal.cmpf_def, Ideal.absf_def, ofBits_top] at h
  refine finite_of_abs x ?_
  by_contra hc
  simp [Ideal.cmp, hc] at h

/-- What the precondition says of its two arrays. -/
theorem finite_entries (z : FVec Ideal S8x576x256 .f32) (cb : FVec Ideal S16384x256 .f32) (d : FVec Ideal S8x384x384 .f32)
    (t : FVec Ideal S8x3 .f32) (W : FVec Ideal S3x598 .f32) (b : FVec Ideal S598 .f32) (i : S_.Idx)
    (h : fn (F := Ideal) z cb d t W b i = 1#1) :
    (∀ j, ∃ r : ℝ, z j = (r : EReal)) ∧ ∀ j, ∃ r : ℝ, cb j = (r : EReal) := by
  have : Subsingleton S_.Idx := ⟨fun a b => funext fun k => k.elim0⟩
  unfold fn at h
  obtain ⟨h1, h2⟩ := IntOp.andi_eq_one.1 h
  exact ⟨fun j => finite_of_cmp _ (Host.reduce_andi_all _ _ _ _ i h1 j), fun j => finite_of_cmp _ (Host.reduce_andi_all _ _ _ _ i h2 j)⟩

end Cert.Pre_finite

end
-- ==== Proof.lean ====
/- The claims: every program ends with its arguments unchanged; the two kernels agree in form; and on finite rows and a finite codebook the kernel's two results are the reference's. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite
public import proofs.«01_k».proof.Proof.Kernel.Run
public import proofs.«01_k».proof.Proof.KernelIdeal.Run
public import proofs.«01_k».proof.Proof.RefRun
public import proofs.«01_k».proof.Proof.Agree
public import proofs.«01_k».proof.Proof.Finite
public import Idealize.ShloMosaic.Adequacy
public import Idealize.ShloMosaic.Init

@[expose] public section

noncomputable section

namespace Cert.Proof

open Idealize.ShloMosaic Idealize.SL.Sem Cert.Kernel

/-- The plain program ends with its arguments unchanged and every counter at zero. -/
theorem reference_frame : Cert.quiescent_ReferenceIdeal := fun m g _ =>
  (θ_run Cert.ReferenceIdeal.defs _ _).mono (fun _ h => ⟨fun c => (h.1 c).2, h.2⟩) (Cert.ReferenceIdeal.Plain.run_main m g)

/-- On finite rows and a finite codebook the two programs end with the same two arrays. -/
theorem same_results : Cert.algebraic_KernelIdeal_ReferenceIdeal_pre_finite := by
  intro m g m' g' hpre hag
  have hfin := fun c : Dev Cert.KernelIdeal.nD => Cert.Pre_finite.finite_entries _ _ _ _ _ _ ix0 (congrFun (hpre c) ix0)
  refine ⟨fun c => Cert.ReferenceIdeal.Plain.condition (m (c.tc.loc Cert.KernelIdeal.main_arg0)) (m (c.tc.loc Cert.KernelIdeal.main_arg1)),
    fun c => Cert.ReferenceIdeal.Plain.embeddings (m (c.tc.loc Cert.KernelIdeal.main_arg2)) (m (c.tc.loc Cert.KernelIdeal.main_arg3))
      (m (c.tc.loc Cert.KernelIdeal.main_arg4)) (m (c.tc.loc Cert.KernelIdeal.main_arg5)), ?_, ?_⟩
  · refine (θ_run Cert.KernelIdeal.defs _ _).mono (fun r h c => ?_) (Cert.KernelIdeal.Vq.run_main m g)
    obtain ⟨ha, h6, h7⟩ := h.1 c
    exact ⟨h6.trans (Cert.Agree.condition_agrees m g c _ _ rfl rfl (fun b s q => (hfin c).1 _) (fun n q => (hfin c).2 _)),
      h7.trans (Cert.Agree.embeddings_agrees m g c _ _ _ _ rfl rfl rfl rfl),
      ha _ (by decide), ha _ (by decide), ha _ (by decide), ha _ (by decide), ha _ (by decide), ha _ (by decide)⟩
  · refine (θ_run Cert.ReferenceIdeal.defs _ _).mono (fun r h c => ?_) (Cert.ReferenceIdeal.Plain.run_main m' g')
    obtain ⟨⟨h38, h49⟩, hargs⟩ := h.1 c
    obtain ⟨e0, e1, e2, e3, e4, e5⟩ := hag c
    rw [e0, e1] at h38
    rw [e2, e3, e4, e5] at h49
    exact ⟨h38, h49, hargs⟩

theorem claim : Cert.Claim := ⟨Cert.Kernel.Gen.facts, Cert.KernelIdeal.Gen.facts, Cert.ReferenceIdeal.Gen.facts, Cert.Pre_finite.Gen.facts,
  fun m g _ => Cert.Kernel.Vq.frame m g, fun m g _ => Cert.KernelIdeal.Vq.frame m g, fun m g _ => Cert.KernelIdeal.Vq.frame m g,
  reference_frame, fun m g _ => reference_frame m g trivial, trivial, same_results⟩

end Cert.Proof

end
